-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "lo_minus_2" .f32 0xC0400000#32 ((-50331647 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near [hKernelIdeal : Cert.KernelIdeal.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v5))) = (fun _ => 1#1))

def Claim : Prop :=
  ∃ (hKernel : Cert.Kernel.Facts) (hKernelIdeal : Cert.KernelIdeal.Facts) (hReferenceIdeal : Cert.ReferenceIdeal.Facts) (hPost_near : Cert.Post_near.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near (hKernelIdeal := hKernelIdeal) (hPost_near := hPost_near)
-- ==== Post_near.lean ====
abbrev S4x8192x1 : Shape := ⟨3, ![4, 8192, 1]⟩
abbrev S768 : Shape := ⟨1, ![768]⟩
abbrev S32768x768 : Shape := ⟨2, ![32768, 768]⟩
abbrev S_ : Shape := ⟨0, ![]⟩
abbrev S1x1x768 : Shape := ⟨3, ![1, 1, 768]⟩
abbrev S4x8192x768 : Shape := ⟨3, ![4, 8192, 768]⟩
abbrev S1 : Shape := ⟨1, ![1]⟩
abbrev S2 : Shape := ⟨1, ![2]⟩
abbrev S25165824 : Shape := ⟨1, ![25165824]⟩

class Facts : Prop where
  bcast_S_S768 : S_.BroadcastsInDim S768 (![] : Fin 0 → Fin S768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S4x8192x1_S4x8192x768_0_1_2 : S4x8192x1.BroadcastsInDim S4x8192x768 (![0, 1, 2] : Fin 3 → Fin S4x8192x768.rank)
  bcast_S_S4x8192x768 : S_.BroadcastsInDim S4x8192x768 (![] : Fin 0 → Fin S4x8192x768.rank)
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  shapeCasts_S25165824_S4x8192x768 : S25165824.ShapeCasts S4x8192x768
  shapeCasts_S4x8192x768_S32768x768 : S4x8192x768.ShapeCasts S32768x768

variable [Facts]

def fn_uniforms_part10 {F : FTy → Type} [FloatOps F] (v185 : IVec S4x8192x768 32) (v189 : IVec S4x8192x768 32) : FVec F S4x8192x768 .f32 :=
  let v190 : IVec S4x8192x768 32 := xori v185 v189
  let c_49 : IVec S_ 32 := constantI S_ 32 9#32
  let v191 : IVec S4x8192x768 32 := broadcastInDim S4x8192x768 ![] bcast_S_S4x8192x768 c_49
  let v192 : IVec S4x8192x768 32 := Host.shrui v190 v191
  let c_50 : IVec S_ 32 := constantI S_ 32 1065353216#32
  let v193 : IVec S4x8192x768 32 := broadcastInDim S4x8192x768 ![] bcast_S_S4x8192x768 c_50
  let v194 : IVec S4x8192x768 32 := ori v192 v193
  let v195 : FVec F S4x8192x768 .f32 := bitcastToFloat .f32 v194
  let cst : FVec F S_ .f32 := constant S_ .f32 0x3F800000#32
  let v196 : FVec F S4x8192x768 .f32 := broadcastInDim S4x8192x768 ![] bcast_S_S4x8192x768 cst
  let v197 : FVec F S4x8192x768 .f32 := subf v195 v196
  let cst_51 : FVec F S_ .f32 := constant S_ .f32 0x40000000#32
  let v198 : FVec F S4x8192x768 .f32 := broadcastInDim S4x8192x768 ![] bcast_S_S4x8192x768 cst_51
  let v199 : FVec F S4x8192x768 .f32 := mulf v197 v198
  let cst_52 : FVec F S_ .f32 := constant S_ .f32 0xBF7FFFFF#32
  let v200 : FVec F S4x8192x768 .f32 := broadcastInDim S4x8192x768 ![] bcast_S_S4x8192x768 cst_52
  let v201 : FVec F S4x8192x768 .f32 := addf v199 v200
  let cst_53 : FVec F S_ .f32 := constant S_ .f32 0xBF7FFFFF#32
  let v202 : FVec F S4x8192x768 .f32 := broadcastInDim S4x8192x768 ![] bcast_S_S4x8192x768 cst_53
  let v203 : FVec F S4x8192x768 .f32 := maximumf v202 v201
  v203

def fn_uniforms_part9 {F : FTy → Type} [FloatOps F] (v8 : IVec S_ 32) (v12 : IVec S_ 32) (v169 : IVec S4x8192x768 32) (v170 : IVec S4x8192x768 32) : FVec F S4x8192x768 .f32 :=
  let c_44 : IVec S_ 32 := constantI S_ 32 26#32
  let v171 : IVec S4x8192x768 32 := broadcastInDim S4x8192x768 ![] bcast_S_S4x8192x768 c_44
  let v172 : IVec S4x8192x768 32 := Host.shli v169 v171
  let c_45 : IVec S_ 32 := constantI S_ 32 6#32
  let v173 : IVec S4x8192x768 32 := broadcastInDim S4x8192x768 ![] bcast_S_S4x8192x768 c_45
  let v174 : IVec S4x8192x768 32 := Host.shrui v169 v173
  let v175 : IVec S4x8192x768 32 := ori v172 v174
  let v176 : IVec S4x8192x768 32 := xori v170 v175
  let v177 : IVec S4x8192x768 32 := addi v170 v176
  let c_46 : IVec S_ 32 := constantI S_ 32 6#32
  let v178 : IVec S4x8192x768 32 := broadcastInDim S4x8192x768 ![] bcast_S_S4x8192x768 c_46
  let v179 : IVec S4x8192x768 32 := Host.shli v176 v178
  let c_47 : IVec S_ 32 := constantI S_ 32 26#32
  let v180 : IVec S4x8192x768 32 := broadcastInDim S4x8192x768 ![] bcast_S_S4x8192x768 c_47
  let v181 : IVec S4x8192x768 32 := Host.shrui v176 v180
  let v182 : IVec S4x8192x768 32 := ori v179 v181
  let v183 : IVec S4x8192x768 32 := xori v177 v182
  let v184 : IVec S4x8192x768 32 := broadcastInDim S4x8192x768 ![] bcast_S_S4x8192x768 v12
  let v185 : IVec S4x8192x768 32 := addi v177 v184
  let v186 : IVec S4x8192x768 32 := broadcastInDim S4x8192x768 ![] bcast_S_S4x8192x768 v8
  let v187 : IVec S4x8192x768 32 := addi v183 v186
  let c_48 : IVec S_ 32 := constantI S_ 32 5#32
  let v188 : IVec S4x8192x768 32 := broadcastInDim S4x8192x768 ![] bcast_S_S4x8192x768 c_48
  let v189 : IVec S4x8192x768 32 := addi v187 v188
  fn_uniforms_part10 (F := F) v185 v189

def fn_uniforms_part8 {F : FTy → Type} [FloatOps F] (v8 : IVec S_ 32) (v12 : IVec S_ 32) (v149 : IVec S4x8192x768 32) (v151 : IVec S4x8192x768 32) : FVec F S4x8192x768 .f32 :=
  let v152 : IVec S4x8192x768 32 := broadcastInDim S4x8192x768 ![] bcast_S_S4x8192x768 v12
  let v153 : IVec S4x8192x768 32 := addi v149 v152
  let c_39 : IVec S_ 32 := constantI S_ 32 4#32
  let v154 : IVec S4x8192x768 32 := broadcastInDim S4x8192x768 ![] bcast_S_S4x8192x768 c_39
  let v155 : IVec S4x8192x768 32 := addi v153 v154
  let v156 : IVec S4x8192x768 32 := addi v151 v155
  let c_40 : IVec S_ 32 := constantI S_ 32 13#32
  let v157 : IVec S4x8192x768 32 := broadcastInDim S4x8192x768 ![] bcast_S_S4x8192x768 c_40
  let v158 : IVec S4x8192x768 32 := Host.shli v155 v157
  let c_41 : IVec S_ 32 := constantI S_ 32 19#32
  let v159 : IVec S4x8192x768 32 := broadcastInDim S4x8192x768 ![] bcast_S_S4x8192x768 c_41
  let v160 : IVec S4x8192x768 32 := Host.shrui v155 v159
  let v161 : IVec S4x8192x768 32 := ori v158 v160
  let v162 : IVec S4x8192x768 32 := xori v156 v161
  let v163 : IVec S4x8192x768 32 := addi v156 v162
  let c_42 : IVec S_ 32 := constantI S_ 32 15#32
  let v164 : IVec S4x8192x768 32 := broadcastInDim S4x8192x768 ![] bcast_S_S4x8192x768 c_42
  let v165 : IVec S4x8192x768 32 := Host.shli v162 v164
  let c_43 : IVec S_ 32 := constantI S_ 32 17#32
  let v166 : IVec S4x8192x768 32 := broadcastInDim S4x8192x768 ![] bcast_S_S4x8192x768 c_43
  let v167 : IVec S4x8192x768 32 := Host.shrui v162 v166
  let v168 : IVec S4x8192x768 32 := ori v165 v167
  let v169 : IVec S4x8192x768 32 := xori v163 v168
  let v170 : IVec S4x8192x768 32 := addi v163 v169
  fn_uniforms_part9 (F := F) v8 v12 v169 v170

def fn_uniforms_part7 {F : FTy → Type} [FloatOps F] (v8 : IVec S_ 32) (v10 : IVec S_ 32) (v12 : IVec S_ 32) (v128 : IVec S4x8192x768 32) (v129 : IVec S4x8192x768 32) (v131 : IVec S4x8192x768 32) (c_34 : IVec S_ 32) : FVec F S4x8192x768 .f32 :=
  let v132 : IVec S4x8192x768 32 := broadcastInDim S4x8192x768 ![] bcast_S_S4x8192x768 c_34
  let v133 : IVec S4x8192x768 32 := Host.shrui v128 v132
  let v134 : IVec S4x8192x768 32 := ori v131 v133
  let v135 : IVec S4x8192x768 32 := xori v129 v134
  let v136 : IVec S4x8192x768 32 := addi v129 v135
  let c_35 : IVec S_ 32 := constantI S_ 32 16#32
  let v137 : IVec S4x8192x768 32 := broadcastInDim S4x8192x768 ![] bcast_S_S4x8192x768 c_35
  let v138 : IVec S4x8192x768 32 := Host.shli v135 v137
  let c_36 : IVec S_ 32 := constantI S_ 32 16#32
  let v139 : IVec S4x8192x768 32 := broadcastInDim S4x8192x768 ![] bcast_S_S4x8192x768 c_36
  let v140 : IVec S4x8192x768 32 := Host.shrui v135 v139
  let v141 : IVec S4x8192x768 32 := ori v138 v140
  let v142 : IVec S4x8192x768 32 := xori v136 v141
  let v143 : IVec S4x8192x768 32 := addi v136 v142
  let c_37 : IVec S_ 32 := constantI S_ 32 24#32
  let v144 : IVec S4x8192x768 32 := broadcastInDim S4x8192x768 ![] bcast_S_S4x8192x768 c_37
  let v145 : IVec S4x8192x768 32 := Host.shli v142 v144
  let c_38 : IVec S_ 32 := constantI S_ 32 8#32
  let v146 : IVec S4x8192x768 32 := broadcastInDim S4x8192x768 ![] bcast_S_S4x8192x768 c_38
  let v147 : IVec S4x8192x768 32 := Host.shrui v142 v146
  let v148 : IVec S4x8192x768 32 := ori v145 v147
  let v149 : IVec S4x8192x768 32 := xori v143 v148
  let v150 : IVec S4x8192x768 32 := broadcastInDim S4x8192x768 ![] bcast_S_S4x8192x768 v10
  let v151 : IVec S4x8192x768 32 := addi v143 v150
  fn_uniforms_part8 (F := F) v8 v12 v149 v151

def fn_uniforms_part6 {F : FTy → Type} [FloatOps F] (v8 : IVec S_ 32) (v10 : IVec S_ 32) (v12 : IVec S_ 32) (v108 : IVec S4x8192x768 32) (v109 : IVec S4x8192x768 32) (v111 : IVec S4x8192x768 32) (v112 : IVec S4x8192x768 32) : FVec F S4x8192x768 .f32 :=
  let v113 : IVec S4x8192x768 32 := Host.shrui v108 v112
  let v114 : IVec S4x8192x768 32 := ori v111 v113
  let v115 : IVec S4x8192x768 32 := xori v109 v114
  let v116 : IVec S4x8192x768 32 := broadcastInDim S4x8192x768 ![] bcast_S_S4x8192x768 v8
  let v117 : IVec S4x8192x768 32 := addi v109 v116
  let v118 : IVec S4x8192x768 32 := broadcastInDim S4x8192x768 ![] bcast_S_S4x8192x768 v10
  let v119 : IVec S4x8192x768 32 := addi v115 v118
  let c_30 : IVec S_ 32 := constantI S_ 32 3#32
  let v120 : IVec S4x8192x768 32 := broadcastInDim S4x8192x768 ![] bcast_S_S4x8192x768 c_30
  let v121 : IVec S4x8192x768 32 := addi v119 v120
  let v122 : IVec S4x8192x768 32 := addi v117 v121
  let c_31 : IVec S_ 32 := constantI S_ 32 17#32
  let v123 : IVec S4x8192x768 32 := broadcastInDim S4x8192x768 ![] bcast_S_S4x8192x768 c_31
  let v124 : IVec S4x8192x768 32 := Host.shli v121 v123
  let c_32 : IVec S_ 32 := constantI S_ 32 15#32
  let v125 : IVec S4x8192x768 32 := broadcastInDim S4x8192x768 ![] bcast_S_S4x8192x768 c_32
  let v126 : IVec S4x8192x768 32 := Host.shrui v121 v125
  let v127 : IVec S4x8192x768 32 := ori v124 v126
  let v128 : IVec S4x8192x768 32 := xori v122 v127
  let v129 : IVec S4x8192x768 32 := addi v122 v128
  let c_33 : IVec S_ 32 := constantI S_ 32 29#32
  let v130 : IVec S4x8192x768 32 := broadcastInDim S4x8192x768 ![] bcast_S_S4x8192x768 c_33
  let v131 : IVec S4x8192x768 32 := Host.shli v128 v130
  let c_34 : IVec S_ 32 := constantI S_ 32 3#32
  fn_uniforms_part7 (F := F) v8 v10 v12 v128 v129 v131 c_34

def fn_uniforms_part5 {F : FTy → Type} [FloatOps F] (v8 : IVec S_ 32) (v10 : IVec S_ 32) (v12 : IVec S_ 32) (v88 : IVec S4x8192x768 32) (v94 : IVec S4x8192x768 32) : FVec F S4x8192x768 .f32 :=
  let v95 : IVec S4x8192x768 32 := addi v88 v94
  let c_24 : IVec S_ 32 := constantI S_ 32 15#32
  let v96 : IVec S4x8192x768 32 := broadcastInDim S4x8192x768 ![] bcast_S_S4x8192x768 c_24
  let v97 : IVec S4x8192x768 32 := Host.shli v94 v96
  let c_25 : IVec S_ 32 := constantI S_ 32 17#32
  let v98 : IVec S4x8192x768 32 := broadcastInDim S4x8192x768 ![] bcast_S_S4x8192x768 c_25
  let v99 : IVec S4x8192x768 32 := Host.shrui v94 v98
  let v100 : IVec S4x8192x768 32 := ori v97 v99
  let v101 : IVec S4x8192x768 32 := xori v95 v100
  let v102 : IVec S4x8192x768 32 := addi v95 v101
  let c_26 : IVec S_ 32 := constantI S_ 32 26#32
  let v103 : IVec S4x8192x768 32 := broadcastInDim S4x8192x768 ![] bcast_S_S4x8192x768 c_26
  let v104 : IVec S4x8192x768 32 := Host.shli v101 v103
  let c_27 : IVec S_ 32 := constantI S_ 32 6#32
  let v105 : IVec S4x8192x768 32 := broadcastInDim S4x8192x768 ![] bcast_S_S4x8192x768 c_27
  let v106 : IVec S4x8192x768 32 := Host.shrui v101 v105
  let v107 : IVec S4x8192x768 32 := ori v104 v106
  let v108 : IVec S4x8192x768 32 := xori v102 v107
  let v109 : IVec S4x8192x768 32 := addi v102 v108
  let c_28 : IVec S_ 32 := constantI S_ 32 6#32
  let v110 : IVec S4x8192x768 32 := broadcastInDim S4x8192x768 ![] bcast_S_S4x8192x768 c_28
  let v111 : IVec S4x8192x768 32 := Host.shli v108 v110
  let c_29 : IVec S_ 32 := constantI S_ 32 26#32
  let v112 : IVec S4x8192x768 32 := broadcastInDim S4x8192x768 ![] bcast_S_S4x8192x768 c_29
  fn_uniforms_part6 (F := F) v8 v10 v12 v108 v109 v111 v112

def fn_uniforms_part4 {F : FTy → Type} [FloatOps F] (v8 : IVec S_ 32) (v10 : IVec S_ 32) (v12 : IVec S_ 32) (v74 : IVec S4x8192x768 32) (v75 : IVec S4x8192x768 32) : FVec F S4x8192x768 .f32 :=
  let c_19 : IVec S_ 32 := constantI S_ 32 24#32
  let v76 : IVec S4x8192x768 32 := broadcastInDim S4x8192x768 ![] bcast_S_S4x8192x768 c_19
  let v77 : IVec S4x8192x768 32 := Host.shli v74 v76
  let c_20 : IVec S_ 32 := constantI S_ 32 8#32
  let v78 : IVec S4x8192x768 32 := broadcastInDim S4x8192x768 ![] bcast_S_S4x8192x768 c_20
  let v79 : IVec S4x8192x768 32 := Host.shrui v74 v78
  let v80 : IVec S4x8192x768 32 := ori v77 v79
  let v81 : IVec S4x8192x768 32 := xori v75 v80
  let v82 : IVec S4x8192x768 32 := broadcastInDim S4x8192x768 ![] bcast_S_S4x8192x768 v12
  let v83 : IVec S4x8192x768 32 := addi v75 v82
  let v84 : IVec S4x8192x768 32 := broadcastInDim S4x8192x768 ![] bcast_S_S4x8192x768 v8
  let v85 : IVec S4x8192x768 32 := addi v81 v84
  let c_21 : IVec S_ 32 := constantI S_ 32 2#32
  let v86 : IVec S4x8192x768 32 := broadcastInDim S4x8192x768 ![] bcast_S_S4x8192x768 c_21
  let v87 : IVec S4x8192x768 32 := addi v85 v86
  let v88 : IVec S4x8192x768 32 := addi v83 v87
  let c_22 : IVec S_ 32 := constantI S_ 32 13#32
  let v89 : IVec S4x8192x768 32 := broadcastInDim S4x8192x768 ![] bcast_S_S4x8192x768 c_22
  let v90 : IVec S4x8192x768 32 := Host.shli v87 v89
  let c_23 : IVec S_ 32 := constantI S_ 32 19#32
  let v91 : IVec S4x8192x768 32 := broadcastInDim S4x8192x768 ![] bcast_S_S4x8192x768 c_23
  let v92 : IVec S4x8192x768 32 := Host.shrui v87 v91
  let v93 : IVec S4x8192x768 32 := ori v90 v92
  let v94 : IVec S4x8192x768 32 := xori v88 v93
  fn_uniforms_part5 (F := F) v8 v10 v12 v88 v94

def fn_uniforms_part3 {F : FTy → Type} [FloatOps F] (v8 : IVec S_ 32) (v10 : IVec S_ 32) (v12 : IVec S_ 32) (v53 : IVec S4x8192x768 32) (v54 : IVec S4x8192x768 32) (v56 : IVec S4x8192x768 32) : FVec F S4x8192x768 .f32 :=
  let c_14 : IVec S_ 32 := constantI S_ 32 15#32
  let v57 : IVec S4x8192x768 32 := broadcastInDim S4x8192x768 ![] bcast_S_S4x8192x768 c_14
  let v58 : IVec S4x8192x768 32 := Host.shrui v53 v57
  let v59 : IVec S4x8192x768 32 := ori v56 v58
  let v60 : IVec S4x8192x768 32 := xori v54 v59
  let v61 : IVec S4x8192x768 32 := addi v54 v60
  let c_15 : IVec S_ 32 := constantI S_ 32 29#32
  let v62 : IVec S4x8192x768 32 := broadcastInDim S4x8192x768 ![] bcast_S_S4x8192x768 c_15
  let v63 : IVec S4x8192x768 32 := Host.shli v60 v62
  let c_16 : IVec S_ 32 := constantI S_ 32 3#32
  let v64 : IVec S4x8192x768 32 := broadcastInDim S4x8192x768 ![] bcast_S_S4x8192x768 c_16
  let v65 : IVec S4x8192x768 32 := Host.shrui v60 v64
  let v66 : IVec S4x8192x768 32 := ori v63 v65
  let v67 : IVec S4x8192x768 32 := xori v61 v66
  let v68 : IVec S4x8192x768 32 := addi v61 v67
  let c_17 : IVec S_ 32 := constantI S_ 32 16#32
  let v69 : IVec S4x8192x768 32 := broadcastInDim S4x8192x768 ![] bcast_S_S4x8192x768 c_17
  let v70 : IVec S4x8192x768 32 := Host.shli v67 v69
  let c_18 : IVec S_ 32 := constantI S_ 32 16#32
  let v71 : IVec S4x8192x768 32 := broadcastInDim S4x8192x768 ![] bcast_S_S4x8192x768 c_18
  let v72 : IVec S4x8192x768 32 := Host.shrui v67 v71
  let v73 : IVec S4x8192x768 32 := ori v70 v72
  let v74 : IVec S4x8192x768 32 := xori v68 v73
  let v75 : IVec S4x8192x768 32 := addi v68 v74
  fn_uniforms_part4 (F := F) v8 v10 v12 v74 v75

def fn_uniforms_part2 {F : FTy → Type} [FloatOps F] (v8 : IVec S_ 32) (v10 : IVec S_ 32) (v12 : IVec S_ 32) (v33 : IVec S4x8192x768 32) (v34 : IVec S4x8192x768 32) (v36 : IVec S4x8192x768 32) (c_9 : IVec S_ 32) : FVec F S4x8192x768 .f32 :=
  let v37 : IVec S4x8192x768 32 := broadcastInDim S4x8192x768 ![] bcast_S_S4x8192x768 c_9
  let v38 : IVec S4x8192x768 32 := Host.shrui v33 v37
  let v39 : IVec S4x8192x768 32 := ori v36 v38
  let v40 : IVec S4x8192x768 32 := xori v34 v39
  let v41 : IVec S4x8192x768 32 := addi v34 v40
  let c_10 : IVec S_ 32 := constantI S_ 32 6#32
  let v42 : IVec S4x8192x768 32 := broadcastInDim S4x8192x768 ![] bcast_S_S4x8192x768 c_10
  let v43 : IVec S4x8192x768 32 := Host.shli v40 v42
  let c_11 : IVec S_ 32 := constantI S_ 32 26#32
  let v44 : IVec S4x8192x768 32 := broadcastInDim S4x8192x768 ![] bcast_S_S4x8192x768 c_11
  let v45 : IVec S4x8192x768 32 := Host.shrui v40 v44
  let v46 : IVec S4x8192x768 32 := ori v43 v45
  let v47 : IVec S4x8192x768 32 := xori v41 v46
  let v48 : IVec S4x8192x768 32 := broadcastInDim S4x8192x768 ![] bcast_S_S4x8192x768 v10
  let v49 : IVec S4x8192x768 32 := addi v41 v48
  let v50 : IVec S4x8192x768 32 := broadcastInDim S4x8192x768 ![] bcast_S_S4x8192x768 v12
  let v51 : IVec S4x8192x768 32 := addi v47 v50
  let c_12 : IVec S_ 32 := constantI S_ 32 1#32
  let v52 : IVec S4x8192x768 32 := broadcastInDim S4x8192x768 ![] bcast_S_S4x8192x768 c_12
  let v53 : IVec S4x8192x768 32 := addi v51 v52
  let v54 : IVec S4x8192x768 32 := addi v49 v53
  let c_13 : IVec S_ 32 := constantI S_ 32 17#32
  let v55 : IVec S4x8192x768 32 := broadcastInDim S4x8192x768 ![] bcast_S_S4x8192x768 c_13
  let v56 : IVec S4x8192x768 32 := Host.shli v53 v55
  fn_uniforms_part3 (F := F) v8 v10 v12 v53 v54 v56

def fn_uniforms_part1 {F : FTy → Type} [FloatOps F] (v8 : IVec S_ 32) (v10 : IVec S_ 32) (v12 : IVec S_ 32) (v15 : IVec S4x8192x768 32) (v17 : IVec S4x8192x768 32) (v18 : IVec S4x8192x768 32) : FVec F S4x8192x768 .f32 :=
  let v19 : IVec S4x8192x768 32 := addi v17 v18
  let v20 : IVec S4x8192x768 32 := addi v15 v19
  let c_4 : IVec S_ 32 := constantI S_ 32 13#32
  let v21 : IVec S4x8192x768 32 := broadcastInDim S4x8192x768 ![] bcast_S_S4x8192x768 c_4
  let v22 : IVec S4x8192x768 32 := Host.shli v19 v21
  let c_5 : IVec S_ 32 := constantI S_ 32 19#32
  let v23 : IVec S4x8192x768 32 := broadcastInDim S4x8192x768 ![] bcast_S_S4x8192x768 c_5
  let v24 : IVec S4x8192x768 32 := Host.shrui v19 v23
  let v25 : IVec S4x8192x768 32 := ori v22 v24
  let v26 : IVec S4x8192x768 32 := xori v20 v25
  let v27 : IVec S4x8192x768 32 := addi v20 v26
  let c_6 : IVec S_ 32 := constantI S_ 32 15#32
  let v28 : IVec S4x8192x768 32 := broadcastInDim S4x8192x768 ![] bcast_S_S4x8192x768 c_6
  let v29 : IVec S4x8192x768 32 := Host.shli v26 v28
  let c_7 : IVec S_ 32 := constantI S_ 32 17#32
  let v30 : IVec S4x8192x768 32 := broadcastInDim S4x8192x768 ![] bcast_S_S4x8192x768 c_7
  let v31 : IVec S4x8192x768 32 := Host.shrui v26 v30
  let v32 : IVec S4x8192x768 32 := ori v29 v31
  let v33 : IVec S4x8192x768 32 := xori v27 v32
  let v34 : IVec S4x8192x768 32 := addi v27 v33
  let c_8 : IVec S_ 32 := constantI S_ 32 26#32
  let v35 : IVec S4x8192x768 32 := broadcastInDim S4x8192x768 ![] bcast_S_S4x8192x768 c_8
  let v36 : IVec S4x8192x768 32 := Host.shli v33 v35
  let c_9 : IVec S_ 32 := constantI S_ 32 6#32
  fn_uniforms_part2 (F := F) v8 v10 v12 v33 v34 v36 c_9

def fn_uniforms {F : FTy → Type} [FloatOps F]  : FVec F S4x8192x768 .f32 :=
  let c : IVec S_ 32 := constantI S_ 32 42#32
  let c_0 : IVec S_ 32 := constantI S_ 32 32#32
  let v0 : IVec S_ 32 := Host.shrui c c_0
  let v1 : IVec S_ 32 := id v0
  let v2 : IVec S1 32 := broadcastInDim S1 ![] bcast_S_S1 v1
  let c_1 : IVec S_ 32 := constantI S_ 32 4294967295#32
  let v3 : IVec S_ 32 := andi c c_1
  let v4 : IVec S_ 32 := id v3
  let v5 : IVec S1 32 := broadcastInDim S1 ![] bcast_S_S1 v4
  let v6 : IVec S2 32 := (fun a b => concatenate S2 0 [⟨S1, a⟩, ⟨S1, b⟩] concatenates_S1_S1_S2_d0) v2 v5
  let v7 : IVec S1 32 := (extractStridedSlice S1 ![0] · slices_S2_S1_0) v6
  let v8 : IVec S_ 32 := shapeCast S_ v7 shapeCasts_S1_S_
  let v9 : IVec S1 32 := (extractStridedSlice S1 ![1] · slices_S2_S1_1) v6
  let v10 : IVec S_ 32 := shapeCast S_ v9 shapeCasts_S1_S_
  let v11 : IVec S_ 32 := xori v8 v10
  let c_2 : IVec S_ 32 := constantI S_ 32 466688986#32
  let v12 : IVec S_ 32 := xori v11 c_2
  let c_3 : IVec S_ 32 := constantI S_ 32 0#32
  let v13 : IVec S4x8192x768 32 := broadcastInDim S4x8192x768 ![] bcast_S_S4x8192x768 c_3
  let v14 : IVec S4x8192x768 32 := broadcastInDim S4x8192x768 ![] bcast_S_S4x8192x768 v8
  let v15 : IVec S4x8192x768 32 := addi v13 v14
  let v16 : IVec S25165824 32 := iotaInDim S25165824 32 0
  let v17 : IVec S4x8192x768 32 := shapeCast S4x8192x768 v16 shapeCasts_S25165824_S4x8192x768
  let v18 : IVec S4x8192x768 32 := broadcastInDim S4x8192x768 ![] bcast_S_S4x8192x768 v10
  fn_uniforms_part1 (F := F) v8 v10 v12 v15 v17 v18

def fn_where {F : FTy → Type} [FloatOps F] (arg0 : IVec S4x8192x768 1) (arg1 : FVec F S4x8192x768 .f32) (arg2 : FVec F S4x8192x768 .f32) : FVec F S4x8192x768 .f32 :=
  let v0 : FVec F S4x8192x768 .f32 := select arg0 arg1 arg2
  v0

def fn_erf_inv_part3 {F : FTy → Type} [FloatOps F] (arg0 : FVec F S4x8192x768 .f32) (v5 : IVec S4x8192x768 1) (v32 : FVec F S4x8192x768 .f32) (v35 : FVec F S4x8192x768 .f32) (v52 : FVec F S4x8192x768 .f32) (cst_17 : FVec F S_ .f32) : FVec F S4x8192x768 .f32 :=
  let v53 : FVec F S4x8192x768 .f32 := broadcastInDim S4x8192x768 ![] bcast_S_S4x8192x768 cst_17
  let v54 : FVec F S4x8192x768 .f32 := addf v52 v53
  let v55 : FVec F S4x8192x768 .f32 := mulf v54 v35
  let cst_18 : FVec F S_ .f32 := constant S_ .f32 0x3F8036DB#32
  let v56 : FVec F S4x8192x768 .f32 := broadcastInDim S4x8192x768 ![] bcast_S_S4x8192x768 cst_18
  let v57 : FVec F S4x8192x768 .f32 := addf v55 v56
  let v58 : FVec F S4x8192x768 .f32 := mulf v57 v35
  let cst_19 : FVec F S_ .f32 := constant S_ .f32 0x40354F7E#32
  let v59 : FVec F S4x8192x768 .f32 := broadcastInDim S4x8192x768 ![] bcast_S_S4x8192x768 cst_19
  let v60 : FVec F S4x8192x768 .f32 := addf v58 v59
  let v61 : FVec F S4x8192x768 .f32 := fn_where (F := F) v5 v32 v60
  let v62 : FVec F S4x8192x768 .f32 := mulf arg0 v61
  v62

def fn_erf_inv_part2 {F : FTy → Type} [FloatOps F] (arg0 : FVec F S4x8192x768 .f32) (v5 : IVec S4x8192x768 1) (v32 : FVec F S4x8192x768 .f32) (v35 : FVec F S4x8192x768 .f32) : FVec F S4x8192x768 .f32 :=
  let cst_11 : FVec F S_ .f32 := constant S_ .f32 0xB951F09B#32
  let v36 : FVec F S4x8192x768 .f32 := broadcastInDim S4x8192x768 ![] bcast_S_S4x8192x768 cst_11
  let v37 : FVec F S4x8192x768 .f32 := mulf v36 v35
  let cst_12 : FVec F S_ .f32 := constant S_ .f32 0x38D3B56B#32
  let v38 : FVec F S4x8192x768 .f32 := broadcastInDim S4x8192x768 ![] bcast_S_S4x8192x768 cst_12
  let v39 : FVec F S4x8192x768 .f32 := addf v37 v38
  let v40 : FVec F S4x8192x768 .f32 := mulf v39 v35
  let cst_13 : FVec F S_ .f32 := constant S_ .f32 0x3AB0DC72#32
  let v41 : FVec F S4x8192x768 .f32 := broadcastInDim S4x8192x768 ![] bcast_S_S4x8192x768 cst_13
  let v42 : FVec F S4x8192x768 .f32 := addf v40 v41
  let v43 : FVec F S4x8192x768 .f32 := mulf v42 v35
  let cst_14 : FVec F S_ .f32 := constant S_ .f32 0xBB70BDE7#32
  let v44 : FVec F S4x8192x768 .f32 := broadcastInDim S4x8192x768 ![] bcast_S_S4x8192x768 cst_14
  let v45 : FVec F S4x8192x768 .f32 := addf v43 v44
  let v46 : FVec F S4x8192x768 .f32 := mulf v45 v35
  let cst_15 : FVec F S_ .f32 := constant S_ .f32 0x3BBC127B#32
  let v47 : FVec F S4x8192x768 .f32 := broadcastInDim S4x8192x768 ![] bcast_S_S4x8192x768 cst_15
  let v48 : FVec F S4x8192x768 .f32 := addf v46 v47
  let v49 : FVec F S4x8192x768 .f32 := mulf v48 v35
  let cst_16 : FVec F S_ .f32 := constant S_ .f32 0xBBF9C5D7#32
  let v50 : FVec F S4x8192x768 .f32 := broadcastInDim S4x8192x768 ![] bcast_S_S4x8192x768 cst_16
  let v51 : FVec F S4x8192x768 .f32 := addf v49 v50
  let v52 : FVec F S4x8192x768 .f32 := mulf v51 v35
  let cst_17 : FVec F S_ .f32 := constant S_ .f32 0x3C1AA57E#32
  fn_erf_inv_part3 (F := F) arg0 v5 v32 v35 v52 cst_17

def fn_erf_inv_part1 {F : FTy → Type} [FloatOps F] (arg0 : FVec F S4x8192x768 .f32) (v3 : FVec F S4x8192x768 .f32) (v5 : IVec S4x8192x768 1) (v7 : FVec F S4x8192x768 .f32) (v17 : FVec F S4x8192x768 .f32) : FVec F S4x8192x768 .f32 :=
  let v18 : FVec F S4x8192x768 .f32 := mulf v17 v7
  let cst_5 : FVec F S_ .f32 := constant S_ .f32 0x396532DB#32
  let v19 : FVec F S4x8192x768 .f32 := broadcastInDim S4x8192x768 ![] bcast_S_S4x8192x768 cst_5
  let v20 : FVec F S4x8192x768 .f32 := addf v18 v19
  let v21 : FVec F S4x8192x768 .f32 := mulf v20 v7
  let cst_6 : FVec F S_ .f32 := constant S_ .f32 0xBAA45408#32
  let v22 : FVec F S4x8192x768 .f32 := broadcastInDim S4x8192x768 ![] bcast_S_S4x8192x768 cst_6
  let v23 : FVec F S4x8192x768 .f32 := addf v21 v22
  let v24 : FVec F S4x8192x768 .f32 := mulf v23 v7
  let cst_7 : FVec F S_ .f32 := constant S_ .f32 0xBB88E4EF#32
  let v25 : FVec F S4x8192x768 .f32 := broadcastInDim S4x8192x768 ![] bcast_S_S4x8192x768 cst_7
  let v26 : FVec F S4x8192x768 .f32 := addf v24 v25
  let v27 : FVec F S4x8192x768 .f32 := mulf v26 v7
  let cst_8 : FVec F S_ .f32 := constant S_ .f32 0x3E7C8F63#32
  let v28 : FVec F S4x8192x768 .f32 := broadcastInDim S4x8192x768 ![] bcast_S_S4x8192x768 cst_8
  let v29 : FVec F S4x8192x768 .f32 := addf v27 v28
  let v30 : FVec F S4x8192x768 .f32 := mulf v29 v7
  let cst_9 : FVec F S_ .f32 := constant S_ .f32 0x3FC02E2F#32
  let v31 : FVec F S4x8192x768 .f32 := broadcastInDim S4x8192x768 ![] bcast_S_S4x8192x768 cst_9
  let v32 : FVec F S4x8192x768 .f32 := addf v30 v31
  let v33 : FVec F S4x8192x768 .f32 := Host.sqrt v3
  let cst_10 : FVec F S_ .f32 := constant S_ .f32 0x40400000#32
  let v34 : FVec F S4x8192x768 .f32 := broadcastInDim S4x8192x768 ![] bcast_S_S4x8192x768 cst_10
  let v35 : FVec F S4x8192x768 .f32 := subf v33 v34
  fn_erf_inv_part2 (F := F) arg0 v5 v32 v35

def fn_erf_inv {F : FTy → Type} [FloatOps F] (arg0 : FVec F S4x8192x768 .f32) : FVec F S4x8192x768 .f32 :=
  let v0 : FVec F S4x8192x768 .f32 := Host.negf arg0
  let v1 : FVec F S4x8192x768 .f32 := mulf v0 arg0
  let v2 : FVec F S4x8192x768 .f32 := Host.log1p v1
  let v3 : FVec F S4x8192x768 .f32 := Host.negf v2
  let cst : FVec F S_ .f32 := constant S_ .f32 0x40A00000#32
  let v4 : FVec F S4x8192x768 .f32 := broadcastInDim S4x8192x768 ![] bcast_S_S4x8192x768 cst
  let v5 : IVec S4x8192x768 1 := cmpf .olt v3 v4
  let cst_0 : FVec F S_ .f32 := constant S_ .f32 0x40200000#32
  let v6 : FVec F S4x8192x768 .f32 := broadcastInDim S4x8192x768 ![] bcast_S_S4x8192x768 cst_0
  let v7 : FVec F S4x8192x768 .f32 := subf v3 v6
  let cst_1 : FVec F S_ .f32 := constant S_ .f32 0x32F16588#32
  let v8 : FVec F S4x8192x768 .f32 := broadcastInDim S4x8192x768 ![] bcast_S_S4x8192x768 cst_1
  let v9 : FVec F S4x8192x768 .f32 := mulf v8 v7
  let cst_2 : FVec F S_ .f32 := constant S_ .f32 0x34B84B36#32
  let v10 : FVec F S4x8192x768 .f32 := broadcastInDim S4x8192x768 ![] bcast_S_S4x8192x768 cst_2
  let v11 : FVec F S4x8192x768 .f32 := addf v9 v10
  let v12 : FVec F S4x8192x768 .f32 := mulf v11 v7
  let cst_3 : FVec F S_ .f32 := constant S_ .f32 0xB66C7357#32
  let v13 : FVec F S4x8192x768 .f32 := broadcastInDim S4x8192x768 ![] bcast_S_S4x8192x768 cst_3
  let v14 : FVec F S4x8192x768 .f32 := addf v12 v13
  let v15 : FVec F S4x8192x768 .f32 := mulf v14 v7
  let cst_4 : FVec F S_ .f32 := constant S_ .f32 0xB6935AC1#32
  let v16 : FVec F S4x8192x768 .f32 := broadcastInDim S4x8192x768 ![] bcast_S_S4x8192x768 cst_4
  let v17 : FVec F S4x8192x768 .f32 := addf v15 v16
  fn_erf_inv_part1 (F := F) arg0 v3 v5 v7 v17

def fn_part2 {F : FTy → Type} [FloatOps F] (main_arg5 : FVec F S32768x768 .f32) (main_v25 : FVec F S4x8192x768 .f32) (main_v35 : FVec F S4x8192x768 .f32) (main_v39 : FVec F S4x8192x768 .f32) : IVec S32768x768 1 :=
  let main_v40 : FVec F S4x8192x768 .f32 := Host.sqrt main_v35
  let main_cst_7 : FVec F S_ .f32 := constant S_ .f32 0x3B8CE704#32
  let main_v41 : FVec F S4x8192x768 .f32 := broadcastInDim S4x8192x768 ![] bcast_S_S4x8192x768 main_cst_7
  let main_v42 : FVec F S4x8192x768 .f32 := subf main_v39 main_v41
  let main_v43 : FVec F S4x8192x768 .f32 := mulf main_v40 main_v42
  let main_v44 : FVec F S4x8192x768 .f32 := addf main_v25 main_v43
  let main_v45 : FVec F S32768x768 .f32 := shapeCast S32768x768 main_v44 shapeCasts_S4x8192x768_S32768x768
  let main_v46 : FVec F S4x8192x768 .f32 := Host.sqrt main_v35
  let main_cst_8 : FVec F S_ .f32 := constant S_ .f32 0x3B8CE704#32
  let main_v47 : FVec F S4x8192x768 .f32 := broadcastInDim S4x8192x768 ![] bcast_S_S4x8192x768 main_cst_8
  let main_v48 : FVec F S4x8192x768 .f32 := addf main_v39 main_v47
  let main_v49 : FVec F S4x8192x768 .f32 := mulf main_v46 main_v48
  let main_v50 : FVec F S4x8192x768 .f32 := addf main_v25 main_v49
  let main_v51 : FVec F S32768x768 .f32 := shapeCast S32768x768 main_v50 shapeCasts_S4x8192x768_S32768x768
  let main_v52 : FVec F S32768x768 .f32 := minimumf main_v45 main_v51
  let main_v53 : IVec S32768x768 1 := cmpf .ole main_v52 main_arg5
  let main_v54 : FVec F S32768x768 .f32 := maximumf main_v45 main_v51
  let main_v55 : IVec S32768x768 1 := cmpf .ole main_arg5 main_v54
  let main_v56 : IVec S32768x768 1 := andi main_v53 main_v55
  main_v56

def fn_part1 {F : FTy → Type} [FloatOps F] (main_arg0 : FVec F S4x8192x1 .f32) (main_arg3 : FVec F S768 .f32) (main_arg5 : FVec F S32768x768 .f32) (main_v10 : FVec F S768 .f32) (main_v16 : FVec F S768 .f32) (main_v17 : FVec F S768 .f32) : IVec S32768x768 1 :=
  let main_v18 : FVec F S1x1x768 .f32 := broadcastInDim S1x1x768 ![2] bcast_S768_S1x1x768_2 main_v17
  let main_v19 : FVec F S4x8192x768 .f32 := broadcastInDim S4x8192x768 ![0, 1, 2] bcast_S1x1x768_S4x8192x768_0_1_2 main_v18
  let main_v20 : FVec F S4x8192x768 .f32 := broadcastInDim S4x8192x768 ![0, 1, 2] bcast_S4x8192x1_S4x8192x768_0_1_2 main_arg0
  let main_v21 : FVec F S4x8192x768 .f32 := mulf main_v19 main_v20
  let main_v22 : FVec F S4x8192x768 .f32 := Host.exp main_v21
  let main_v23 : FVec F S1x1x768 .f32 := broadcastInDim S1x1x768 ![2] bcast_S768_S1x1x768_2 main_arg3
  let main_v24 : FVec F S4x8192x768 .f32 := broadcastInDim S4x8192x768 ![0, 1, 2] bcast_S1x1x768_S4x8192x768_0_1_2 main_v23
  let main_v25 : FVec F S4x8192x768 .f32 := mulf main_v22 main_v24
  let main_cst_5 : FVec F S_ .f32 := constant S_ .f32 0x40000000#32
  let main_v26 : FVec F S4x8192x768 .f32 := broadcastInDim S4x8192x768 ![] bcast_S_S4x8192x768 main_cst_5
  let main_v27 : FVec F S4x8192x768 .f32 := mulf main_v26 main_v21
  let main_v28 : FVec F S4x8192x768 .f32 := Host.exp main_v27
  let main_v29 : FVec F S768 .f32 := subf main_v10 main_v16
  let main_v30 : FVec F S1x1x768 .f32 := broadcastInDim S1x1x768 ![2] bcast_S768_S1x1x768_2 main_v29
  let main_v31 : FVec F S4x8192x768 .f32 := broadcastInDim S4x8192x768 ![0, 1, 2] bcast_S1x1x768_S4x8192x768_0_1_2 main_v30
  let main_v32 : FVec F S4x8192x768 .f32 := mulf main_v28 main_v31
  let main_v33 : FVec F S1x1x768 .f32 := broadcastInDim S1x1x768 ![2] bcast_S768_S1x1x768_2 main_v16
  let main_v34 : FVec F S4x8192x768 .f32 := broadcastInDim S4x8192x768 ![0, 1, 2] bcast_S1x1x768_S4x8192x768_0_1_2 main_v33
  let main_v35 : FVec F S4x8192x768 .f32 := addf main_v34 main_v32
  let main_v36 : FVec F S4x8192x768 .f32 := fn_uniforms (F := F)
  let main_v37 : FVec F S4x8192x768 .f32 := fn_erf_inv (F := F) main_v36
  let main_cst_6 : FVec F S_ .f32 := constant S_ .f32 0x3FB504F3#32
  let main_v38 : FVec F S4x8192x768 .f32 := broadcastInDim S4x8192x768 ![] bcast_S_S4x8192x768 main_cst_6
  let main_v39 : FVec F S4x8192x768 .f32 := mulf main_v38 main_v37
  fn_part2 (F := F) main_arg5 main_v25 main_v35 main_v39

def fn {F : FTy → Type} [FloatOps F] (main_arg0 : FVec F S4x8192x1 .f32) (main_arg1 : FVec F S768 .f32) (main_arg2 : FVec F S768 .f32) (main_arg3 : FVec F S768 .f32) (main_arg4 : FVec F S768 .f32) (main_arg5 : FVec F S32768x768 .f32) : IVec S32768x768 1 :=
  let main_v0 : FVec F S768 .f32 := Host.negf main_arg2
  let main_v1 : FVec F S768 .f32 := Host.exp main_v0
  let main_cst : FVec F S_ .f32 := constant S_ .f32 0x3F800000#32
  let main_v2 : FVec F S768 .f32 := broadcastInDim S768 ![] bcast_S_S768 main_cst
  let main_v3 : FVec F S768 .f32 := addf main_v2 main_v1
  let main_cst_0 : FVec F S_ .f32 := constant S_ .f32 0x3F800000#32
  let main_v4 : FVec F S768 .f32 := broadcastInDim S768 ![] bcast_S_S768 main_cst_0
  let main_v5 : FVec F S768 .f32 := Host.divf main_v4 main_v3
  let main_cst_1 : FVec F S_ .f32 := constant S_ .f32 0x403FBA14#32
  let main_v6 : FVec F S768 .f32 := broadcastInDim S768 ![] bcast_S_S768 main_cst_1
  let main_v7 : FVec F S768 .f32 := mulf main_v5 main_v6
  let main_cst_2 : FVec F S_ .f32 := constant S_ .f32 0x3FCE0210#32
  let main_v8 : FVec F S768 .f32 := broadcastInDim S768 ![] bcast_S_S768 main_cst_2
  let main_v9 : FVec F S768 .f32 := addf main_v8 main_v7
  let main_v10 : FVec F S768 .f32 := Host.exp main_arg4
  let main_cst_3 : FVec F S_ .f32 := constant S_ .f32 0x40000000#32
  let main_v11 : FVec F S768 .f32 := broadcastInDim S768 ![] bcast_S_S768 main_cst_3
  let main_v12 : FVec F S768 .f32 := mulf main_v11 main_arg1
  let main_v13 : FVec F S768 .f32 := Host.exp main_v12
  let main_cst_4 : FVec F S_ .f32 := constant S_ .f32 0x3F000000#32
  let main_v14 : FVec F S768 .f32 := broadcastInDim S768 ![] bcast_S_S768 main_cst_4
  let main_v15 : FVec F S768 .f32 := mulf main_v14 main_v13
  let main_v16 : FVec F S768 .f32 := Host.divf main_v15 main_v9
  let main_v17 : FVec F S768 .f32 := Host.negf main_v9
  fn_part1 (F := F) main_arg0 main_arg3 main_arg5 main_v10 main_v16 main_v17
-- ==== Kernel.lean ====
abbrev S4x8192x1 : Shape := ⟨3, ![4, 8192, 1]⟩
abbrev S768 : Shape := ⟨1, ![768]⟩
abbrev S32768x1 : Shape := ⟨2, ![32768, 1]⟩
abbrev S1x768 : Shape := ⟨2, ![1, 768]⟩
abbrev S32768x768 : Shape := ⟨2, ![32768, 768]⟩
abbrev S1024x1 : Shape := ⟨2, ![1024, 1]⟩
abbrev S1024x768 : Shape := ⟨2, ![1024, 768]⟩
abbrev S8x768 : Shape := ⟨2, ![8, 768]⟩
abbrev S8x1 : Shape := ⟨2, ![8, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1, .f32⟩
  | .hbm, ⟨1, _⟩ => ⟨S768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S32768x1, .f32⟩
  | .hbm, ⟨6, _⟩ => ⟨S1x768, .f32⟩
  | .hbm, ⟨7, _⟩ => ⟨S1x768, .f32⟩
  | .hbm, ⟨8, _⟩ => ⟨S1x768, .f32⟩
  | .hbm, ⟨9, _⟩ => ⟨S1x768, .f32⟩
  | .hbm, ⟨10, _⟩ => ⟨S32768x768, .f32⟩
  | .local _ .vmem, ⟨0, _⟩ => ⟨S1024x1, .f32⟩
  | .local _ .vmem, ⟨1, _⟩ => ⟨S1024x1, .f32⟩
  | .local _ .vmem, ⟨2, _⟩ => ⟨S1x768, .f32⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S4x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c128_i32 : BitVec 32 := 128#32
  let v31 : BitVec 32 := Scalar.addi c0_i32 c128_i32
  let c1_i32 : BitVec 32 := 1#32
  ⟨c0_i32, v31, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32_63 : BitVec 32 := 8#32
  let v242 : BitVec 32 := Scalar.muli arg7 c8_i32_63
  let v243 : Index := Scalar.indexCast v242
  let c0_64 : Index := 0#32
  ![v243.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32_65 : BitVec 32 := 8#32
  let v265 : BitVec 32 := Scalar.muli arg7 c8_i32_65
  let v266 : Index := Scalar.indexCast v265
  let c0_66 : Index := 0#32
  ![v266.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "lo_minus_2" => some ((-50331647 / 16777216 : ℝ) : EReal)
  | "neg_log2_e" => some ((-((Real.log 2)⁻¹) : ℝ) : EReal)
  | _ => none
-- ==== ReferenceIdeal.lean ====
abbrev S4x8192x1 : Shape := ⟨3, ![4, 8192, 1]⟩
abbrev S768 : Shape := ⟨1, ![768]⟩
abbrev S6 : Shape := ⟨1, ![6]⟩
abbrev S_ : Shape := ⟨0, ![]⟩
abbrev S1x1x768 : Shape := ⟨3, ![1, 1, 768]⟩
abbrev S4x8192x768 : Shape := ⟨3, ![4, 8192, 768]⟩
abbrev S1 : Shape := ⟨1, ![1]⟩
abbrev S2 : Shape := ⟨1, ![2]⟩
abbrev S25165824 : Shape := ⟨1, ![25165824]⟩
abbrev S32768x768 : Shape := ⟨2, ![32768, 768]⟩

abbrev nBuf : Space → Nat
  | .hbm => 348
  | .vmem => 0
  | .smem => 0
  | _ => 0

abbrev hbmTy0_0 (i : Nat) : BufTy := match i % 128 with
  | 0 => ⟨S4x8192x1, .f32⟩
  | 1 => ⟨S768, .f32⟩
  | 2 => ⟨S768, .f32⟩
  | 3 => ⟨S768, .f32⟩
  | 4 => ⟨S768, .f32⟩
  | 5 => ⟨S6, .f32⟩
  | 6 => ⟨S768, .f32⟩
  | 7 => ⟨S768, .f32⟩
  | 8 => ⟨S_, .f32⟩
  | 9 => ⟨S768, .f32⟩
  | 10 => ⟨S768, .f32⟩
  | 11 => ⟨S_, .f32⟩
  | 12 => ⟨S768, .f32⟩
  | 13 => ⟨S768, .f32⟩
  | 14 => ⟨S_, .f32⟩
  | 15 => ⟨S768, .f32⟩
  | 16 => ⟨S768, .f32⟩
  | 17 => ⟨S_, .f32⟩
  | 18 => ⟨S768, .f32⟩
  | 19 => ⟨S768, .f32⟩
  | 20 => ⟨S768, .f32⟩
  | 21 => ⟨S_, .f32⟩
  | 22 => ⟨S768, .f32⟩
  | 23 => ⟨S768, .f32⟩
  | 24 => ⟨S768, .f32⟩
  | 25 => ⟨S_, .f32⟩
  | 26 => ⟨S768, .f32⟩
  | 27 => ⟨S768, .f32⟩
  | 28 => ⟨S768, .f32⟩
  | 29 => ⟨S768, .f32⟩
  | 30 => ⟨S1x1x768, .f32⟩
  | 31 => ⟨S4x8192x768, .f32⟩
  | 32 => ⟨S4x8192x768, .f32⟩
  | 33 => ⟨S4x8192x768, .f32⟩
  | 34 => ⟨S4x8192x768, .f32⟩
  | 35 => ⟨S1x1x768, .f32⟩
  | 36 => ⟨S4x8192x768, .f32⟩
  | 37 => ⟨S4x8192x768, .f32⟩
  | 38 => ⟨S_, .f32⟩
  | 39 => ⟨S4x8192x768, .f32⟩
  | 40 => ⟨S4x8192x768, .f32⟩
  | 41 => ⟨S4x8192x768, .f32⟩
  | 42 => ⟨S768, .f32⟩
  | 43 => ⟨S1x1x768, .f32⟩
  | 44 => ⟨S4x8192x768, .f32⟩
  | 45 => ⟨S4x8192x768, .f32⟩
  | 46 => ⟨S1x1x768, .f32⟩
  | 47 => ⟨S4x8192x768, .f32⟩
  | 48 => ⟨S4x8192x768, .f32⟩
  | 49 => ⟨S4x8192x768, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S1, .i32⟩
  | 61 => ⟨S_, .i32⟩
  | 62 => ⟨S1, .i32⟩
  | 63 => ⟨S_, .i32⟩
  | 64 => ⟨S_, .i32⟩
  | 65 => ⟨S_, .i32⟩
  | 66 => ⟨S_, .i32⟩
  | 67 => ⟨S_, .i32⟩
  | 68 => ⟨S4x8192x768, .i32⟩
  | 69 => ⟨S4x8192x768, .i32⟩
  | 70 => ⟨S4x8192x768, .i32⟩
  | 71 => ⟨S25165824, .i32⟩
  | 72 => ⟨S4x8192x768, .i32⟩
  | 73 => ⟨S4x8192x768, .i32⟩
  | 74 => ⟨S4x8192x768, .i32⟩
  | 75 => ⟨S4x8192x768, .i32⟩
  | 76 => ⟨S_, .i32⟩
  | 77 => ⟨S4x8192x768, .i32⟩
  | 78 => ⟨S4x8192x768, .i32⟩
  | 79 => ⟨S_, .i32⟩
  | 80 => ⟨S4x8192x768, .i32⟩
  | 81 => ⟨S4x8192x768, .i32⟩
  | 82 => ⟨S4x8192x768, .i32⟩
  | 83 => ⟨S4x8192x768, .i32⟩
  | 84 => ⟨S4x8192x768, .i32⟩
  | 85 => ⟨S_, .i32⟩
  | 86 => ⟨S4x8192x768, .i32⟩
  | 87 => ⟨S4x8192x768, .i32⟩
  | 88 => ⟨S_, .i32⟩
  | 89 => ⟨S4x8192x768, .i32⟩
  | 90 => ⟨S4x8192x768, .i32⟩
  | 91 => ⟨S4x8192x768, .i32⟩
  | 92 => ⟨S4x8192x768, .i32⟩
  | 93 => ⟨S4x8192x768, .i32⟩
  | 94 => ⟨S_, .i32⟩
  | 95 => ⟨S4x8192x768, .i32⟩
  | 96 => ⟨S4x8192x768, .i32⟩
  | 97 => ⟨S_, .i32⟩
  | 98 => ⟨S4x8192x768, .i32⟩
  | 99 => ⟨S4x8192x768, .i32⟩
  | 100 => ⟨S4x8192x768, .i32⟩
  | 101 => ⟨S4x8192x768, .i32⟩
  | 102 => ⟨S4x8192x768, .i32⟩
  | 103 => ⟨S_, .i32⟩
  | 104 => ⟨S4x8192x768, .i32⟩
  | 105 => ⟨S4x8192x768, .i32⟩
  | 106 => ⟨S_, .i32⟩
  | 107 => ⟨S4x8192x768, .i32⟩
  | 108 => ⟨S4x8192x768, .i32⟩
  | 109 => ⟨S4x8192x768, .i32⟩
  | 110 => ⟨S4x8192x768, .i32⟩
  | 111 => ⟨S4x8192x768, .i32⟩
  | 112 => ⟨S4x8192x768, .i32⟩
  | 113 => ⟨S4x8192x768, .i32⟩
  | 114 => ⟨S4x8192x768, .i32⟩
  | 115 => ⟨S_, .i32⟩
  | 116 => ⟨S4x8192x768, .i32⟩
  | 117 => ⟨S4x8192x768, .i32⟩
  | 118 => ⟨S4x8192x768, .i32⟩
  | 119 => ⟨S_, .i32⟩
  | 120 => ⟨S4x8192x768, .i32⟩
  | 121 => ⟨S4x8192x768, .i32⟩
  | 122 => ⟨S_, .i32⟩
  | 123 => ⟨S4x8192x768, .i32⟩
  | 124 => ⟨S4x8192x768, .i32⟩
  | 125 => ⟨S4x8192x768, .i32⟩
  | 126 => ⟨S4x8192x768, .i32⟩
  | 127 => ⟨S4x8192x768, .i32⟩
  | _ => ⟨S4x8192x1, .f32⟩

abbrev hbmTy0_1 (i : Nat) : BufTy := match i % 128 with
  | 0 => ⟨S_, .i32⟩
  | 1 => ⟨S4x8192x768, .i32⟩
  | 2 => ⟨S4x8192x768, .i32⟩
  | 3 => ⟨S_, .i32⟩
  | 4 => ⟨S4x8192x768, .i32⟩
  | 5 => ⟨S4x8192x768, .i32⟩
  | 6 => ⟨S4x8192x768, .i32⟩
  | 7 => ⟨S4x8192x768, .i32⟩
  | 8 => ⟨S4x8192x768, .i32⟩
  | 9 => ⟨S_, .i32⟩
  | 10 => ⟨S4x8192x768, .i32⟩
  | 11 => ⟨S4x8192x768, .i32⟩
  | 12 => ⟨S_, .i32⟩
  | 13 => ⟨S4x8192x768, .i32⟩
  | 14 => ⟨S4x8192x768, .i32⟩
  | 15 => ⟨S4x8192x768, .i32⟩
  | 16 => ⟨S4x8192x768, .i32⟩
  | 17 => ⟨S4x8192x768, .i32⟩
  | 18 => ⟨S_, .i32⟩
  | 19 => ⟨S4x8192x768, .i32⟩
  | 20 => ⟨S4x8192x768, .i32⟩
  | 21 => ⟨S_, .i32⟩
  | 22 => ⟨S4x8192x768, .i32⟩
  | 23 => ⟨S4x8192x768, .i32⟩
  | 24 => ⟨S4x8192x768, .i32⟩
  | 25 => ⟨S4x8192x768, .i32⟩
  | 26 => ⟨S4x8192x768, .i32⟩
  | 27 => ⟨S4x8192x768, .i32⟩
  | 28 => ⟨S4x8192x768, .i32⟩
  | 29 => ⟨S4x8192x768, .i32⟩
  | 30 => ⟨S_, .i32⟩
  | 31 => ⟨S4x8192x768, .i32⟩
  | 32 => ⟨S4x8192x768, .i32⟩
  | 33 => ⟨S4x8192x768, .i32⟩
  | 34 => ⟨S_, .i32⟩
  | 35 => ⟨S4x8192x768, .i32⟩
  | 36 => ⟨S4x8192x768, .i32⟩
  | 37 => ⟨S_, .i32⟩
  | 38 => ⟨S4x8192x768, .i32⟩
  | 39 => ⟨S4x8192x768, .i32⟩
  | 40 => ⟨S4x8192x768, .i32⟩
  | 41 => ⟨S4x8192x768, .i32⟩
  | 42 => ⟨S4x8192x768, .i32⟩
  | 43 => ⟨S_, .i32⟩
  | 44 => ⟨S4x8192x768, .i32⟩
  | 45 => ⟨S4x8192x768, .i32⟩
  | 46 => ⟨S_, .i32⟩
  | 47 => ⟨S4x8192x768, .i32⟩
  | 48 => ⟨S4x8192x768, .i32⟩
  | 49 => ⟨S4x8192x768, .i32⟩
  | 50 => ⟨S4x8192x768, .i32⟩
  | 51 => ⟨S4x8192x768, .i32⟩
  | 52 => ⟨S_, .i32⟩
  | 53 => ⟨S4x8192x768, .i32⟩
  | 54 => ⟨S4x8192x768, .i32⟩
  | 55 => ⟨S_, .i32⟩
  | 56 => ⟨S4x8192x768, .i32⟩
  | 57 => ⟨S4x8192x768, .i32⟩
  | 58 => ⟨S4x8192x768, .i32⟩
  | 59 => ⟨S4x8192x768, .i32⟩
  | 60 => ⟨S4x8192x768, .i32⟩
  | 61 => ⟨S_, .i32⟩
  | 62 => ⟨S4x8192x768, .i32⟩
  | 63 => ⟨S4x8192x768, .i32⟩
  | 64 => ⟨S_, .i32⟩
  | 65 => ⟨S4x8192x768, .i32⟩
  | 66 => ⟨S4x8192x768, .i32⟩
  | 67 => ⟨S4x8192x768, .i32⟩
  | 68 => ⟨S4x8192x768, .i32⟩
  | 69 => ⟨S4x8192x768, .i32⟩
  | 70 => ⟨S4x8192x768, .i32⟩
  | 71 => ⟨S4x8192x768, .i32⟩
  | 72 => ⟨S4x8192x768, .i32⟩
  | 73 => ⟨S_, .i32⟩
  | 74 => ⟨S4x8192x768, .i32⟩
  | 75 => ⟨S4x8192x768, .i32⟩
  | 76 => ⟨S4x8192x768, .i32⟩
  | 77 => ⟨S_, .i32⟩
  | 78 => ⟨S4x8192x768, .i32⟩
  | 79 => ⟨S4x8192x768, .i32⟩
  | 80 => ⟨S_, .i32⟩
  | 81 => ⟨S4x8192x768, .i32⟩
  | 82 => ⟨S4x8192x768, .i32⟩
  | 83 => ⟨S4x8192x768, .i32⟩
  | 84 => ⟨S4x8192x768, .i32⟩
  | 85 => ⟨S4x8192x768, .i32⟩
  | 86 => ⟨S_, .i32⟩
  | 87 => ⟨S4x8192x768, .i32⟩
  | 88 => ⟨S4x8192x768, .i32⟩
  | 89 => ⟨S_, .i32⟩
  | 90 => ⟨S4x8192x768, .i32⟩
  | 91 => ⟨S4x8192x768, .i32⟩
  | 92 => ⟨S4x8192x768, .i32⟩
  | 93 => ⟨S4x8192x768, .i32⟩
  | 94 => ⟨S4x8192x768, .i32⟩
  | 95 => ⟨S_, .i32⟩
  | 96 => ⟨S4x8192x768, .i32⟩
  | 97 => ⟨S4x8192x768, .i32⟩
  | 98 => ⟨S_, .i32⟩
  | 99 => ⟨S4x8192x768, .i32⟩
  | 100 => ⟨S4x8192x768, .i32⟩
  | 101 => ⟨S4x8192x768, .i32⟩
  | 102 => ⟨S4x8192x768, .i32⟩
  | 103 => ⟨S4x8192x768, .i32⟩
  | 104 => ⟨S_, .i32⟩
  | 105 => ⟨S4x8192x768, .i32⟩
  | 106 => ⟨S4x8192x768, .i32⟩
  | 107 => ⟨S_, .i32⟩
  | 108 => ⟨S4x8192x768, .i32⟩
  | 109 => ⟨S4x8192x768, .i32⟩
  | 110 => ⟨S4x8192x768, .i32⟩
  | 111 => ⟨S4x8192x768, .i32⟩
  | 112 => ⟨S4x8192x768, .i32⟩
  | 113 => ⟨S4x8192x768, .i32⟩
  | 114 => ⟨S4x8192x768, .i32⟩
  | 115 => ⟨S4x8192x768, .i32⟩
  | 116 => ⟨S_, .i32⟩
  | 117 => ⟨S4x8192x768, .i32⟩
  | 118 => ⟨S4x8192x768, .i32⟩
  | 119 => ⟨S4x8192x768, .i32⟩
  | 120 => ⟨S_, .i32⟩
  | 121 => ⟨S4x8192x768, .i32⟩
  | 122 => ⟨S4x8192x768, .i32⟩
  | 123 => ⟨S_, .i32⟩
  | 124 => ⟨S4x8192x768, .i32⟩
  | 125 => ⟨S4x8192x768, .i32⟩
  | 126 => ⟨S4x8192x768, .i32⟩
  | 127 => ⟨S4x8192x768, .i32⟩
  | _ => ⟨S4x8192x1, .f32⟩

abbrev hbmTy0_2 (i : Nat) : BufTy := match i % 128 with
  | 0 => ⟨S4x8192x768, .i32⟩
  | 1 => ⟨S_, .i32⟩
  | 2 => ⟨S4x8192x768, .i32⟩
  | 3 => ⟨S4x8192x768, .i32⟩
  | 4 => ⟨S_, .i32⟩
  | 5 => ⟨S4x8192x768, .i32⟩
  | 6 => ⟨S4x8192x768, .i32⟩
  | 7 => ⟨S4x8192x768, .i32⟩
  | 8 => ⟨S4x8192x768, .i32⟩
  | 9 => ⟨S4x8192x768, .i32⟩
  | 10 => ⟨S_, .i32⟩
  | 11 => ⟨S4x8192x768, .i32⟩
  | 12 => ⟨S4x8192x768, .i32⟩
  | 13 => ⟨S_, .i32⟩
  | 14 => ⟨S4x8192x768, .i32⟩
  | 15 => ⟨S4x8192x768, .i32⟩
  | 16 => ⟨S4x8192x768, .i32⟩
  | 17 => ⟨S4x8192x768, .i32⟩
  | 18 => ⟨S4x8192x768, .i32⟩
  | 19 => ⟨S_, .i32⟩
  | 20 => ⟨S4x8192x768, .i32⟩
  | 21 => ⟨S4x8192x768, .i32⟩
  | 22 => ⟨S_, .i32⟩
  | 23 => ⟨S4x8192x768, .i32⟩
  | 24 => ⟨S4x8192x768, .i32⟩
  | 25 => ⟨S4x8192x768, .i32⟩
  | 26 => ⟨S4x8192x768, .i32⟩
  | 27 => ⟨S4x8192x768, .i32⟩
  | 28 => ⟨S4x8192x768, .i32⟩
  | 29 => ⟨S4x8192x768, .i32⟩
  | 30 => ⟨S4x8192x768, .i32⟩
  | 31 => ⟨S_, .i32⟩
  | 32 => ⟨S4x8192x768, .i32⟩
  | 33 => ⟨S4x8192x768, .i32⟩
  | 34 => ⟨S4x8192x768, .i32⟩
  | 35 => ⟨S_, .i32⟩
  | 36 => ⟨S4x8192x768, .i32⟩
  | 37 => ⟨S4x8192x768, .i32⟩
  | 38 => ⟨S_, .i32⟩
  | 39 => ⟨S4x8192x768, .i32⟩
  | 40 => ⟨S4x8192x768, .i32⟩
  | 41 => ⟨S4x8192x768, .f32⟩
  | 42 => ⟨S_, .f32⟩
  | 43 => ⟨S4x8192x768, .f32⟩
  | 44 => ⟨S4x8192x768, .f32⟩
  | 45 => ⟨S_, .f32⟩
  | 46 => ⟨S4x8192x768, .f32⟩
  | 47 => ⟨S4x8192x768, .f32⟩
  | 48 => ⟨S_, .f32⟩
  | 49 => ⟨S4x8192x768, .f32⟩
  | 50 => ⟨S4x8192x768, .f32⟩
  | 51 => ⟨S_, .f32⟩
  | 52 => ⟨S4x8192x768, .f32⟩
  | 53 => ⟨S4x8192x768, .f32⟩
  | 54 => ⟨S4x8192x768, .f32⟩
  | 55 => ⟨S4x8192x768, .f32⟩
  | 56 => ⟨S4x8192x768, .f32⟩
  | 57 => ⟨S_, .f32⟩
  | 58 => ⟨S4x8192x768, .f32⟩
  | 59 => ⟨S4x8192x768, .f32⟩
  | 60 => ⟨S1, .f32⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S4x8192x768, .f32⟩
  | 73 => ⟨S4x8192x768, .f32⟩
  | 74 => ⟨S4x8192x768, .f32⟩
  | 75 => ⟨S4x8192x768, .f32⟩
  | 76 => ⟨S4x8192x768, .f32⟩
  | 77 => ⟨S4x8192x768, .f32⟩
  | 78 => ⟨S4x8192x768, .f32⟩
  | 79 => ⟨S4x8192x768, .f32⟩
  | 80 => ⟨S4x8192x768, .f32⟩
  | 81 => ⟨S4x8192x768, .f32⟩
  | 82 => ⟨S4x8192x768, .f32⟩
  | 83 => ⟨S4x8192x768, .f32⟩
  | 84 => ⟨S4x8192x768, .f32⟩
  | 85 => ⟨S4x8192x768, .f32⟩
  | 86 => ⟨S4x8192x768, .f32⟩
  | 87 => ⟨S4x8192x768, .f32⟩
  | 88 => ⟨S4x8192x768, .f32⟩
  | 89 => ⟨S4x8192x768, .f32⟩
  | 90 => ⟨S4x8192x768, .f32⟩
  | 91 => ⟨S32768x768, .f32⟩
  | _ => ⟨S4x8192x1, .f32⟩

abbrev hbmTy (i : Nat) : BufTy := match i / 128 with
  | 0 => hbmTy0_0 i
  | 1 => hbmTy0_1 i
  | 2 => hbmTy0_2 i
  | _ => ⟨S4x8192x1, .f32⟩

abbrev bufTy : (tb : Table) → Fin (tcTables nBuf tb) → BufTy
  | .hbm, ⟨i, _⟩ => hbmTy i
  | _, _ => ⟨S4x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_15 : Ref sig .tc := ⟨.hbm, 94, rfl⟩
abbrev main_v72 : Ref sig .tc := ⟨.hbm, 95, rfl⟩
abbrev main_v73 : Ref sig .tc := ⟨.hbm, 96, rfl⟩
abbrev main_c_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_17 : Ref sig .tc := ⟨.hbm, 103, rfl⟩
abbrev main_v79 : Ref sig .tc := ⟨.hbm, 104, rfl⟩
abbrev main_v80 : Ref sig .tc := ⟨.hbm, 105, rfl⟩
abbrev main_c_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_20 : Ref sig .tc := ⟨.hbm, 119, rfl⟩
abbrev main_v92 : Ref sig .tc := ⟨.hbm, 120, rfl⟩
abbrev main_v93 : Ref sig .tc := ⟨.hbm, 121, rfl⟩
abbrev main_c_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_22 : Ref sig .tc := ⟨.hbm, 128, rfl⟩
abbrev main_v99 : Ref sig .tc := ⟨.hbm, 129, rfl⟩
abbrev main_v100 : Ref sig .tc := ⟨.hbm, 130, rfl⟩
abbrev main_c_23 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_24 : Ref sig .tc := ⟨.hbm, 137, rfl⟩
abbrev main_v106 : Ref sig .tc := ⟨.hbm, 138, rfl⟩
abbrev main_v107 : Ref sig .tc := ⟨.hbm, 139, rfl⟩
abbrev main_c_25 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_26 : Ref sig .tc := ⟨.hbm, 146, rfl⟩
abbrev main_v113 : Ref sig .tc := ⟨.hbm, 147, rfl⟩
abbrev main_v114 : Ref sig .tc := ⟨.hbm, 148, rfl⟩
abbrev main_c_27 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_28 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_29 : Ref sig .tc := ⟨.hbm, 162, rfl⟩
abbrev main_v126 : Ref sig .tc := ⟨.hbm, 163, rfl⟩
abbrev main_v127 : Ref sig .tc := ⟨.hbm, 164, rfl⟩
abbrev main_c_30 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_c_31 : Ref sig .tc := ⟨.hbm, 171, rfl⟩
abbrev main_v133 : Ref sig .tc := ⟨.hbm, 172, rfl⟩
abbrev main_v134 : Ref sig .tc := ⟨.hbm, 173, rfl⟩
abbrev main_c_32 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_33 : Ref sig .tc := ⟨.hbm, 180, rfl⟩
abbrev main_v140 : Ref sig .tc := ⟨.hbm, 181, rfl⟩
abbrev main_v141 : Ref sig .tc := ⟨.hbm, 182, rfl⟩
abbrev main_c_34 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_c_35 : Ref sig .tc := ⟨.hbm, 189, rfl⟩
abbrev main_v147 : Ref sig .tc := ⟨.hbm, 190, rfl⟩
abbrev main_v148 : Ref sig .tc := ⟨.hbm, 191, rfl⟩
abbrev main_c_36 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_37 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_c_38 : Ref sig .tc := ⟨.hbm, 205, rfl⟩
abbrev main_v160 : Ref sig .tc := ⟨.hbm, 206, rfl⟩
abbrev main_v161 : Ref sig .tc := ⟨.hbm, 207, rfl⟩
abbrev main_c_39 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_c_40 : Ref sig .tc := ⟨.hbm, 214, rfl⟩
abbrev main_v167 : Ref sig .tc := ⟨.hbm, 215, rfl⟩
abbrev main_v168 : Ref sig .tc := ⟨.hbm, 216, rfl⟩
abbrev main_c_41 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_c_42 : Ref sig .tc := ⟨.hbm, 223, rfl⟩
abbrev main_v174 : Ref sig .tc := ⟨.hbm, 224, rfl⟩
abbrev main_v175 : Ref sig .tc := ⟨.hbm, 225, rfl⟩
abbrev main_c_43 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_44 : Ref sig .tc := ⟨.hbm, 232, rfl⟩
abbrev main_v181 : Ref sig .tc := ⟨.hbm, 233, rfl⟩
abbrev main_v182 : Ref sig .tc := ⟨.hbm, 234, rfl⟩
abbrev main_c_45 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_c_46 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_c_47 : Ref sig .tc := ⟨.hbm, 248, rfl⟩
abbrev main_v194 : Ref sig .tc := ⟨.hbm, 249, rfl⟩
abbrev main_v195 : Ref sig .tc := ⟨.hbm, 250, rfl⟩
abbrev main_c_48 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_c_49 : Ref sig .tc := ⟨.hbm, 257, rfl⟩
abbrev main_v201 : Ref sig .tc := ⟨.hbm, 258, rfl⟩
abbrev main_v202 : Ref sig .tc := ⟨.hbm, 259, rfl⟩
abbrev main_c_50 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_c_51 : Ref sig .tc := ⟨.hbm, 266, rfl⟩
abbrev main_v208 : Ref sig .tc := ⟨.hbm, 267, rfl⟩
abbrev main_v209 : Ref sig .tc := ⟨.hbm, 268, rfl⟩
abbrev main_c_52 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_c_53 : Ref sig .tc := ⟨.hbm, 275, rfl⟩
abbrev main_v215 : Ref sig .tc := ⟨.hbm, 276, rfl⟩
abbrev main_v216 : Ref sig .tc := ⟨.hbm, 277, rfl⟩
abbrev main_c_54 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_c_55 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_56 : Ref sig .tc := ⟨.hbm, 291, rfl⟩
abbrev main_v228 : Ref sig .tc := ⟨.hbm, 292, rfl⟩
abbrev main_v229 : Ref sig .tc := ⟨.hbm, 293, rfl⟩
abbrev main_c_57 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_58 : Ref sig .tc := ⟨.hbm, 298, rfl⟩
abbrev main_v233 : Ref sig .tc := ⟨.hbm, 299, rfl⟩
abbrev main_v234 : Ref sig .tc := ⟨.hbm, 300, rfl⟩
abbrev main_cst_59 : Ref sig .tc := ⟨.hbm, 301, rfl⟩
abbrev main_v235 : Ref sig .tc := ⟨.hbm, 302, rfl⟩
abbrev main_v236 : Ref sig .tc := ⟨.hbm, 303, rfl⟩
abbrev main_cst_60 : Ref sig .tc := ⟨.hbm, 304, rfl⟩
abbrev main_v237 : Ref sig .tc := ⟨.hbm, 305, rfl⟩
abbrev main_v238 : Ref sig .tc := ⟨.hbm, 306, rfl⟩
abbrev main_cst_61 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_cst_62 : Ref sig .tc := ⟨.hbm, 313, rfl⟩
abbrev main_v244 : Ref sig .tc := ⟨.hbm, 314, rfl⟩
abbrev main_v245 : Ref sig .tc := ⟨.hbm, 315, rfl⟩
abbrev main_call0_v0 : Ref sig .tc := ⟨.hbm, 316, rfl⟩
abbrev main_call0_v1 : Ref sig .tc := ⟨.hbm, 317, rfl⟩
abbrev main_call0_v2 : Ref sig .tc := ⟨.hbm, 318, rfl⟩
abbrev main_call0_v3 : Ref sig .tc := ⟨.hbm, 319, rfl⟩
abbrev main_call0_v4 : Ref sig .tc := ⟨.hbm, 320, rfl⟩
abbrev main_call0_v5 : Ref sig .tc := ⟨.hbm, 321, rfl⟩
abbrev main_call0_v6 : Ref sig .tc := ⟨.hbm, 322, rfl⟩
abbrev main_call0_v7 : Ref sig .tc := ⟨.hbm, 323, rfl⟩
abbrev main_call0_v8 : Ref sig .tc := ⟨.hbm, 324, rfl⟩
abbrev main_call0_v9 : Ref sig .tc := ⟨.hbm, 325, rfl⟩
abbrev main_call0_v10 : Ref sig .tc := ⟨.hbm, 326, rfl⟩
abbrev main_call0_v11 : Ref sig .tc := ⟨.hbm, 327, rfl⟩
abbrev main_call0_v12 : Ref sig .tc := ⟨.hbm, 328, rfl⟩
abbrev main_call0_v13 : Ref sig .tc := ⟨.hbm, 329, rfl⟩
abbrev main_call0_v14 : Ref sig .tc := ⟨.hbm, 330, rfl⟩
abbrev main_call0_v15 : Ref sig .tc := ⟨.hbm, 331, rfl⟩
abbrev main_call0_v16 : Ref sig .tc := ⟨.hbm, 332, rfl⟩
abbrev main_call0_v17 : Ref sig .tc := ⟨.hbm, 333, rfl⟩
abbrev main_call0_v18 : Ref sig .tc := ⟨.hbm, 334, rfl⟩
abbrev main_call0_v19 : Ref sig .tc := ⟨.hbm, 335, rfl⟩
abbrev main_call0_v20 : Ref sig .tc := ⟨.hbm, 336, rfl⟩
abbrev main_call0_v21 : Ref sig .tc := ⟨.hbm, 337, rfl⟩
abbrev main_call0_v22 : Ref sig .tc := ⟨.hbm, 338, rfl⟩
abbrev main_call0_v23 : Ref sig .tc := ⟨.hbm, 339, rfl⟩
abbrev main_call0_v24 : Ref sig .tc := ⟨.hbm, 340, rfl⟩
abbrev main_call0_v25 : Ref sig .tc := ⟨.hbm, 341, rfl⟩
abbrev main_call0_v26 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩

abbrev nD : Nat := 1
abbrev τ : Topo := Topo.v7x

variable {F : FTy → Type} [FloatOps F]
-- ==== Proof.Threefry.lean ====
/- The random word at a linear index: Threefry-2x32 with the key of `jax.random.key(42)`, as a function of words only. Both
   programs are shown to compute it, one round at a time (Proof/KernelWords.lean, Proof/ReferenceWords.lean). -/
module

public import Idealize.ShloMosaic.PureOps

@[expose] public section

namespace Cert.Words

/-- A round's state: Threefry's two words. -/
abbrev State : Type := BitVec 32 × BitVec 32

/-- One round: the second word is added to the first, and the sum is mixed into the second word rotated left by `r`. -/
def mix (r : ℕ) (x : State) : State :=
  (x.1 + x.2, (x.1 + x.2) ^^^ ((x.2 <<< r) ||| (x.2 >>> (32 - r))))

/-- The key's words after a group of four rounds, the second with the group's number `n`. -/
def inject (a b n : BitVec 32) (x : State) : State := (x.1 + a, x.2 + b + n)

/-- The key's third word: the parity constant with both words of the key (0, 42). -/
def key2 : BitVec 32 := 466689008#32

/-- The rounds of the groups 1, 3 and 5. -/
def roundsA (x : State) : State := mix 6 (mix 26 (mix 15 (mix 13 x)))

/-- The rounds of the groups 2 and 4. -/
def roundsB (x : State) : State := mix 24 (mix 16 (mix 29 (mix 17 x)))

/-- Threefry-2x32 of the count `(0, n)` under the key `(0, 42)`. -/
def threefry (n : BitVec 32) : State :=
  inject key2 0 5 (roundsA (inject 42 key2 4 (roundsB (inject 0 42 3 (roundsA (inject key2 0 2 (roundsB (inject 42 key2 1
    (roundsA (0, n + 42))))))))))

/-- The random word at linear index `n`. -/
def word (n : BitVec 32) : BitVec 32 := (threefry n).1 ^^^ (threefry n).2

/-- The pattern of the float of `[1, 2)` whose mantissa is a word's high 23 bits. -/
def mantissa (w : BitVec 32) : BitVec 32 := (w >>> 9) ||| 0x3F800000#32

end Cert.Words

end
-- ==== Proof.KernelWords.lean ====
/- The words the kernel's chunk computes are Threefry's: each pair of payloads is one round of the pair before it. -/
module

public import proofs.«01_k».proof.Proof.Gen.KernelIdeal.Skeleton
public import proofs.«01_k».proof.Proof.Threefry

@[expose] public section

noncomputable section

namespace Cert.KernelIdeal.Words

open Idealize.ShloMosaic Cert.Words Cert.KernelIdeal.Gen

section Part1

variable (arg0 : BitVec 32) (v30 : IVec S8x768 32) (c0 c1 : BitVec 32) (k : Fin k0_t1_loop.trips) (j : S8x768.Idx)

/-- The first part: the first four rounds, the first of them with a first word of zero, and the key after them. -/
theorem part1 :
    inject 42 key2 1 (roundsA (0, k0_pay8 arg0 v30 c0 c1 k j))
      = (k0_pay14 arg0 v30 c0 c1 k j + 42, k0_pay15 arg0 v30 c0 c1 k j) := by
  have h1 : mix 13 (0, k0_pay8 arg0 v30 c0 c1 k j) = (k0_pay8 arg0 v30 c0 c1 k j, k0_pay9 arg0 v30 c0 c1 k j) := by
    have h (w : BitVec 32) : mix 13 (0, w) = (w, ((w <<< 13) ||| (w >>> 19)) ^^^ w) := by
      simp only [mix]
      rw [show (0 : BitVec 32) + w = w from BitVec.zero_add w, BitVec.xor_comm]
    exact h _
  have h2 : mix 15 (k0_pay8 arg0 v30 c0 c1 k j, k0_pay9 arg0 v30 c0 c1 k j)
      = (k0_pay10 arg0 v30 c0 c1 k j, k0_pay11 arg0 v30 c0 c1 k j) := rfl
  have h3 : mix 26 (k0_pay10 arg0 v30 c0 c1 k j, k0_pay11 arg0 v30 c0 c1 k j)
      = (k0_pay12 arg0 v30 c0 c1 k j, k0_pay13 arg0 v30 c0 c1 k j) := rfl
  rw [roundsA, h1, h2, h3]
  rfl

end Part1

section Part2

variable (v70 v71 v73 v74 : IVec S8x768 32) (j : S8x768.Idx)

/-- The second part, from the first half of a round (its sum `v71` and its shifted word `v73` are given): the second
    group, the key after it, and two rounds of the third. -/
theorem part2 (x : BitVec 32) (hx : v71 j = x + v70 j) (hs : v73 j = v70 j <<< 17) (hc : v74 j = 15#32) :
    mix 15 (mix 13 (inject key2 0 2 (roundsB (x, v70 j)))) = (k0_pay28 v70 v71 v73 v74 j, k0_pay29 v70 v71 v73 v74 j) := by
  have h1 : mix 17 (x, v70 j) = (v71 j, k0_pay19 v70 v71 v73 v74 j) := by
    have h : k0_pay19 v70 v71 v73 v74 j = v71 j ^^^ (v73 j ||| IntOp.shrui .vector (v70 j) (v74 j)) := rfl
    rw [h, hs, hc, hx]
    rfl
  have h2 : mix 29 (v71 j, k0_pay19 v70 v71 v73 v74 j) = (k0_pay20 v70 v71 v73 v74 j, k0_pay21 v70 v71 v73 v74 j) := rfl
  have h3 : mix 16 (k0_pay20 v70 v71 v73 v74 j, k0_pay21 v70 v71 v73 v74 j)
      = (k0_pay22 v70 v71 v73 v74 j, k0_pay23 v70 v71 v73 v74 j) := rfl
  have h4 : inject key2 0 2 (mix 24 (k0_pay22 v70 v71 v73 v74 j, k0_pay23 v70 v71 v73 v74 j))
      = (k0_pay24 v70 v71 v73 v74 j + key2, k0_pay25 v70 v71 v73 v74 j) := rfl
  have h5 : mix 13 (k0_pay24 v70 v71 v73 v74 j + key2, k0_pay25 v70 v71 v73 v74 j)
      = (k0_pay26 v70 v71 v73 v74 j, k0_pay27 v70 v71 v73 v74 j) := rfl
  rw [roundsB, h1, h2, h3, h4, h5]
  rfl

end Part2

section Part3

variable (v118 v119 v120 : IVec S8x768 32) (j : S8x768.Idx)

/-- The third part, from the sum `v119` of a round: the last two rounds of the third group, the key after it, and the
    fourth group. -/
theorem part3 (x : BitVec 32) (hx : v119 j = x + v118 j) (hc : v120 j = 26#32) :
    roundsB (inject 0 42 3 (mix 6 (mix 26 (x, v118 j)))) = (k0_pay41 v118 v119 v120 j, k0_pay42 v118 v119 v120 j) := by
  have h1 : mix 26 (x, v118 j) = (v119 j, k0_pay32 v118 v119 v120 j) := by
    have h : k0_pay32 v118 v119 v120 j
        = v119 j ^^^ (IntOp.shli .vector (v118 j) (v120 j) ||| IntOp.shrui .vector (v118 j) 6#32) := rfl
    rw [h, hc, hx]
    rfl
  have h2 : inject 0 42 3 (mix 6 (v119 j, k0_pay32 v118 v119 v120 j))
      = (k0_pay33 v118 v119 v120 j + 0, k0_pay34 v118 v119 v120 j) := rfl
  have h3 : mix 17 (k0_pay33 v118 v119 v120 j + 0, k0_pay34 v118 v119 v120 j)
      = (k0_pay35 v118 v119 v120 j, k0_pay36 v118 v119 v120 j) := rfl
  have h4 : mix 29 (k0_pay35 v118 v119 v120 j, k0_pay36 v118 v119 v120 j)
      = (k0_pay37 v118 v119 v120 j, k0_pay38 v118 v119 v120 j) := rfl
  have h5 : mix 16 (k0_pay37 v118 v119 v120 j, k0_pay38 v118 v119 v120 j)
      = (k0_pay39 v118 v119 v120 j, k0_pay40 v118 v119 v120 j) := rfl
  rw [h1, h2, roundsB, h3, h4, h5]
  rfl

end Part3

/-- The fourth part: the key after the fourth group, the fifth group and its key; the two words xored, and the high 23
    bits of that. -/
theorem part4 (v160 v166 : IVec S8x768 32) (j : S8x768.Idx) :
    k0_pay43 v160 v166 j = ((inject key2 0 5 (roundsA (inject 42 key2 4 (v160 j, v166 j)))).1
      ^^^ (inject key2 0 5 (roundsA (inject 42 key2 4 (v160 j, v166 j)))).2) >>> 9 := rfl

section Chunk

variable (arg0 : BitVec 32) (v30 : IVec S8x768 32) (c0 c1 : BitVec 32) (k : Fin k0_t1_loop.trips) (j : S8x768.Idx)

/-- The second part's words at the first part's. -/
abbrev words2 (f : IVec S8x768 32 → IVec S8x768 32 → IVec S8x768 32 → IVec S8x768 32 → IVec S8x768 32) : IVec S8x768 32 :=
  f (k0_pay15 arg0 v30 c0 c1 k) (k0_pay16 arg0 v30 c0 c1 k) (k0_pay17 arg0 v30 c0 c1 k) k0_pay18

/-- The third part's words at the second part's. -/
abbrev words3 (f : IVec S8x768 32 → IVec S8x768 32 → IVec S8x768 32 → IVec S8x768 32) : IVec S8x768 32 :=
  f (words2 arg0 v30 c0 c1 k k0_pay29) (words2 arg0 v30 c0 c1 k k0_pay30) k0_pay31

/-- A chunk's shifted words are the random words' high bits: at a place whose linear index is `n`. -/
theorem chunk_words (n : BitVec 32) (hn : k0_pay8 arg0 v30 c0 c1 k j = n + 42) :
    k0_pay43 (words3 arg0 v30 c0 c1 k k0_pay41) (words3 arg0 v30 c0 c1 k k0_pay42) j = word n >>> 9 := by
  rw [part4, ← part3 _ _ _ j _ rfl rfl, ← part2 _ _ _ _ j (k0_pay14 arg0 v30 c0 c1 k j + 42) rfl rfl rfl, ← part1, hn]
  rfl

end Chunk

end Cert.KernelIdeal.Words

end
-- ==== Proof.Scalar.lean ====
/- One element of the result, over the extended reals: the reference's formula and the kernel's formula as functions of the five
   arguments' elements and the random word, and the equations that make them one function. -/
module

public import Idealize.ShloMosaic.PureOps.Ideal
public import proofs.«01_k».proof.Proof.Threefry

@[expose] public section

noncomputable section

namespace Cert.Scalar

open Idealize.ShloMosaic Cert.Words

/-- The extended real of a single-precision literal. -/
abbrev lit (b : BitVec 32) : EReal := Ideal.ofBits .f32 b

/-! ## The reference's formulas -/

/-- The rate: the lower bound and the logistic function times the bounds' distance. -/
def theta (q : EReal) : EReal :=
  lit 0x3FCE0210#32 + Ideal.div (lit 0x3F800000#32) (lit 0x3F800000#32 + Ideal.exp (-q)) * lit 0x403FBA14#32

/-- The stationary variance. -/
def varScale (ls q : EReal) : EReal := Ideal.div (lit 0x3F000000#32 * Ideal.exp (lit 0x40000000#32 * ls)) (theta q)

/-- The uniform deviate of `(-1, 1)` of a random word. -/
def uniform (w : BitVec 32) : EReal :=
  max (lit 0xBF7FFFFF#32) ((lit (mantissa w) - lit 0x3F800000#32) * lit 0x40000000#32 + lit 0xBF7FFFFF#32)

/-- The fit's argument at a deviate. -/
def depth (u : EReal) : EReal := Ideal.log1p (-u * u) + lit 0x41000000#32

/-- The fit's polynomial, by Horner's rule. -/
def fit (s : EReal) : EReal :=
  ((((lit 0x36499C89#32 * s + lit 0x37BB9826#32) * s + lit 0xB9C6D332#32) * s + lit 0xBC0499CB#32) * s + lit 0xBE7F7F98#32) * s
    + lit 0x40711ECD#32

/-- The normal deviate of a uniform one. -/
def quantile (u : EReal) : EReal := u * fit (depth u)

/-- The reference's element. -/
def sample (t ls q mu lv : EReal) (w : BitVec 32) : EReal :=
  Ideal.exp (-theta q * t) * mu
    + Ideal.sqrt (varScale ls q + Ideal.exp (lit 0x40000000#32 * (-theta q * t)) * (Ideal.exp lv - varScale ls q))
      * quantile (uniform w)

/-! ## The kernel's formulas -/

/-- The kernel's rate. -/
def thetaK (q : EReal) : EReal := lit 0x3FCE0210#32 + Ideal.logistic q * lit 0x403FBA14#32

/-- The kernel's stationary variance. -/
def varScaleK (ls q : EReal) : EReal := Ideal.div (lit 0x3F000000#32 * Ideal.exp (lit 0x40000000#32 * ls)) (thetaK q)

/-- The kernel's exponent to base 2 at time 1. -/
def slopeK (q : EReal) : EReal := thetaK q * ((-((Real.log 2)⁻¹) : ℝ) : EReal)

/-- The kernel's uniform deviate, one product and one sum from the float of `[1, 2)`. -/
def uniformK (w : BitVec 32) : EReal :=
  max (lit 0xBF7FFFFF#32) (lit (mantissa w) * lit 0x40000000#32 + ((-50331647 / 16777216 : ℝ) : EReal))

/-- The kernel's normal deviate. -/
def quantileK (u : EReal) : EReal := fit (Ideal.log (lit 0x3F800000#32 - u * u) + lit 0x41000000#32) * u

/-- The kernel's element. -/
def sampleK (t ls q mu lv : EReal) (w : BitVec 32) : EReal :=
  Ideal.exp2 (slopeK q * t) * mu
    + Ideal.sqrt (varScaleK ls q + Ideal.exp2 ((slopeK q + slopeK q) * t) * (Ideal.exp lv - varScaleK ls q))
      * quantileK (uniformK w)

/-! ## The literals -/

/-- The literal 1. -/
theorem lit_one : lit 0x3F800000#32 = 1 := by
  simp [Ideal.ofBits, Ideal.ieee, -EReal.coe_mul]; norm_num

/-- The literal 2. -/
theorem lit_two : lit 0x40000000#32 = ((2 : ℝ) : EReal) := by
  simp [Ideal.ofBits, Ideal.ieee, -EReal.coe_mul]; norm_num

/-- The least uniform deviate, `-1 + 2⁻²⁴`. -/
theorem lit_lo : lit 0xBF7FFFFF#32 = ((-16777215 / 16777216 : ℝ) : EReal) := by
  simp [Ideal.ofBits, Ideal.ieee, -EReal.coe_mul]; norm_num

/-- The rate's lower bound is a positive real. -/
theorem lit_min : ∃ r : ℝ, 0 < r ∧ lit 0x3FCE0210#32 = (r : EReal) := by
  refine ⟨13500944 / 8388608, by norm_num, ?_⟩
  simp [Ideal.ofBits, Ideal.ieee, -EReal.coe_mul]; norm_num

/-- The bounds' distance is a positive real. -/
theorem lit_range : ∃ r : ℝ, 0 < r ∧ lit 0x403FBA14#32 = (r : EReal) := by
  refine ⟨12565012 / 4194304, by norm_num, ?_⟩
  simp [Ideal.ofBits, Ideal.ieee, -EReal.coe_mul]; norm_num

/-- The exponent's field of a float of `[1, 2)`. -/
theorem exponent_mantissa (w : BitVec 32) : (mantissa w).extractLsb' 23 8 = 127#8 := by
  have h : ∀ i : Fin 8, (0x3F800000#32).getLsbD (23 + i.val) = (127#8)[i.val] := by decide
  unfold mantissa
  ext i hi
  rw [BitVec.getElem_extractLsb', BitVec.getLsbD_or, BitVec.getLsbD_ushiftRight, BitVec.getLsbD_of_ge w _ (by omega), Bool.false_or]
  exact h ⟨i, hi⟩

/-- A float of `[1, 2)` is a real. -/
theorem lit_mantissa (w : BitVec 32) : ∃ r : ℝ, lit (mantissa w) = (r : EReal) := by
  have h := exponent_mantissa w
  refine ⟨EReal.toReal (lit (mantissa w)), ?_⟩
  unfold lit Ideal.ofBits Ideal.ieee
  dsimp only
  rw [h, if_neg (by decide), if_neg (by decide), EReal.toReal_coe]

/-! ## The equations -/

/-- The two rates are one. -/
theorem thetaK_eq (q : EReal) : thetaK q = theta q := by
  unfold thetaK theta Ideal.logistic
  rw [lit_one]

/-- The rate is a positive real, at every extended real. -/
theorem theta_real (q : EReal) : ∃ r : ℝ, 0 < r ∧ theta q = (r : EReal) := by
  obtain ⟨a, ha, ea⟩ := lit_min
  obtain ⟨b, hb, eb⟩ := lit_range
  have h : ∃ s : ℝ, 0 ≤ s ∧ Ideal.logistic q = (s : EReal) := by
    induction q using EReal.rec with
    | bot => exact ⟨0, le_refl _, by rw [Ideal.logistic_bot]; rfl⟩
    | coe x => exact ⟨_, by positivity, Ideal.logistic_coe x⟩
    | top => exact ⟨1, by norm_num, by rw [Ideal.logistic_top]; rfl⟩
  obtain ⟨s, hs, es⟩ := h
  refine ⟨a + s * b, by positivity, ?_⟩
  rw [← thetaK_eq, thetaK, ea, eb, es, ← EReal.coe_mul, ← EReal.coe_add]

/-- A power of 2 is the exponential of the exponent times `log 2`. -/
theorem exp2_eq (x : EReal) : Ideal.exp2 (x * ((-((Real.log 2)⁻¹) : ℝ) : EReal)) = Ideal.exp (-x) := by
  have hl : 0 < Real.log 2 := Real.log_pos (by norm_num)
  have hn : -((Real.log 2)⁻¹) < 0 := by have := inv_pos.mpr hl; linarith
  induction x using EReal.rec with
  | bot => rw [EReal.bot_mul_coe_of_neg hn]; rfl
  | coe r =>
    have h : Real.rpow 2 (r * -((Real.log 2)⁻¹)) = Real.exp (-r) := by
      show (2 : ℝ) ^ (r * -((Real.log 2)⁻¹)) = Real.exp (-r)
      rw [Real.rpow_def_of_pos (by norm_num)]
      congr 1
      field_simp
    rw [← EReal.coe_mul, Ideal.exp2_coe, ← EReal.coe_neg, Ideal.exp_coe, h]
  | top => rw [EReal.top_mul_coe_of_neg hn]; rfl

/-- The decay of the mean. -/
theorem decay_eq (q t : EReal) : Ideal.exp2 (slopeK q * t) = Ideal.exp (-theta q * t) := by
  rw [slopeK, thetaK_eq, mul_right_comm, exp2_eq, EReal.neg_mul]

/-- The decay of the variance. -/
theorem decay2_eq (q t : EReal) :
    Ideal.exp2 ((slopeK q + slopeK q) * t) = Ideal.exp (lit 0x40000000#32 * (-theta q * t)) := by
  obtain ⟨r, _, hr⟩ := theta_real q
  have h : slopeK q + slopeK q = lit 0x40000000#32 * theta q * ((-((Real.log 2)⁻¹) : ℝ) : EReal) := by
    rw [slopeK, thetaK_eq, hr, lit_two, ← EReal.coe_mul, ← EReal.coe_mul, ← EReal.coe_mul, ← EReal.coe_add]
    congr 1
    ring
  rw [h, mul_right_comm, exp2_eq, EReal.neg_mul, mul_neg, mul_assoc]

/-- The two uniform deviates are one. -/
theorem uniformK_eq (w : BitVec 32) : uniformK w = uniform w := by
  obtain ⟨r, hr⟩ := lit_mantissa w
  rw [uniformK, uniform, hr, lit_one, lit_two, lit_lo, ← EReal.coe_one, ← EReal.coe_sub, ← EReal.coe_mul, ← EReal.coe_mul,
    ← EReal.coe_add, ← EReal.coe_add]
  congr 2
  ring

/-- The two normal deviates are one. -/
theorem quantileK_eq (u : EReal) : quantileK u = quantile u := by
  rw [quantileK, quantile, depth, Ideal.log1p, lit_one, EReal.neg_mul, ← sub_eq_add_neg, mul_comm]

/-- THE EQUATION of one element: the kernel's formula is the reference's, at all extended reals. -/
theorem sampleK_eq (t ls q mu lv : EReal) (w : BitVec 32) : sampleK t ls q mu lv w = sample t ls q mu lv w := by
  rw [sampleK, sample, decay_eq, decay2_eq, varScaleK, thetaK_eq, ← varScale, quantileK_eq, uniformK_eq]

end Cert.Scalar

end
-- ==== Proof.KernelChunk.lean ====
/- What one trip of the kernel's loop stores: at each place of its eight rows, the element's formula. -/
module

public import proofs.«01_k».proof.Proof.KernelWords
public import proofs.«01_k».proof.Proof.Scalar
public import Idealize.ShloMosaic.Lib.Pointwise

@[expose] public section

noncomputable section

namespace Cert.KernelIdeal.Chunk

open Idealize.ShloMosaic Cert.Words Cert.Scalar Cert.KernelIdeal Cert.KernelIdeal.Gen

/-- The named constant `-log₂ e`. -/
theorem neg_log2_e : Named.named (F := Ideal) κ "neg_log2_e" (φ := .f32) 0xBFB8AA3B#32 = ((-((Real.log 2)⁻¹) : ℝ) : EReal) :=
  IdealRules.named_const.ideal_named_scalar _ _ _ _ rfl

/-- The named constant `-3 + 2⁻²⁴`. -/
theorem lo_minus_2 : Named.named (F := Ideal) κ "lo_minus_2" (φ := .f32) 0xC0400000#32 = ((-50331647 / 16777216 : ℝ) : EReal) :=
  IdealRules.named_const.ideal_named_scalar _ _ _ _ rfl

variable (v0 v7 v10 v18 : Vec Ideal S1x768 .f32) (v244 : Vec Ideal S8x1 .f32) (r : Fin 8) (l : Fin 768)

/-- The rate. -/
theorem theta_apply : k0_pay1 v0 (ix1 l) = thetaK (v0 (ix2 0 l)) := by
  pointwise [k0_pay1]
  rfl

/-- The stationary variance. -/
theorem var_apply : k0_pay2 v0 v10 (ix1 l) = varScaleK (v10 (ix2 0 l)) (v0 (ix2 0 l)) := by
  have h : k0_pay2 v0 v10 (ix1 l) = Ideal.div (lit 0x3F000000#32 * Ideal.exp (lit 0x40000000#32
      * shapeCast S768 v10 shapeCasts_S1x768_S768 (ix1 l))) (k0_pay1 v0 (ix1 l)) := rfl
  rw [h, theta_apply, varScaleK]
  pointwise

/-- The exponent to base 2 at time 1. -/
theorem slope_apply : k0_pay4 v0 (ix2 0 l) = slopeK (v0 (ix2 0 l)) := by
  have h : k0_pay4 v0 (ix2 0 l) = shapeCast S1x768 (mulf (k0_pay1 v0)
      (broadcast S768 (Named.named (F := Ideal) κ "neg_log2_e" (φ := .f32) 0xBFB8AA3B#32))) shapeCasts_S768_S1x768 (ix2 0 l) := rfl
  rw [h, neg_log2_e, slopeK, ← theta_apply]
  pointwise

/-- The mean. -/
theorem mean_apply : k0_pay47 (k0_pay3 v18) (k0_pay4 v0) v244 (ix2 r l)
    = Ideal.exp2 (slopeK (v0 (ix2 0 l)) * v244 (ix2 r 0)) * v18 (ix2 0 l) := by
  rw [← slope_apply]
  pointwise [k0_pay47, k0_pay46, k0_pay3]
  rfl

/-- The variance's decay. -/
theorem decay_apply : k0_pay49 (k0_pay5 v0) v244 (ix2 r l)
    = Ideal.exp2 ((slopeK (v0 (ix2 0 l)) + slopeK (v0 (ix2 0 l))) * v244 (ix2 r 0)) := by
  rw [← slope_apply]
  pointwise [k0_pay49, k0_pay46, k0_pay5]
  rfl

/-- The normal deviate of the words. -/
theorem noise_apply (v209 : IVec S8x768 32) (j : S8x768.Idx) (w : BitVec 32) (hw : v209 j = w >>> 9) :
    k0_pay45 (F := Ideal) v209 k0_pay44 j = quantileK (uniformK w) := by
  have h : lit (IntOp.ori (v209 j) 1065353216#32) = lit (mantissa w) := by rw [hw]; rfl
  have hu : maximumf (broadcast S8x768 (Scalar.ofBits (F := Ideal) .f32 0xBF7FFFFF#32))
      (addf (mulf (bitcastToFloat (F := Ideal) .f32 (ori v209 k0_pay44)) (broadcast S8x768 (Scalar.ofBits .f32 0x40000000#32)))
        (broadcast S8x768 (Named.named (F := Ideal) κ "lo_minus_2" (φ := .f32) 0xC0400000#32))) j = uniformK w := by
    rw [lo_minus_2, uniformK, ← h]
    rfl
  rw [← hu]
  rfl

/-- What the trip stores at a place: the kernel's element of the row's time, the column's parameters and the place's word. -/
theorem store_apply (v209 : IVec S8x768 32) (w : BitVec 32) (hw : v209 (ix2 r l) = w >>> 9) :
    k0_pay7 v0 v7 v10 (k0_pay45 v209 k0_pay44) (k0_pay47 (k0_pay3 v18) (k0_pay4 v0) v244) (k0_pay48 (k0_pay2 v0 v10))
        (k0_pay49 (k0_pay5 v0) v244) (ix2 r l)
      = sampleK (v244 (ix2 r 0)) (v10 (ix2 0 l)) (v0 (ix2 0 l)) (v18 (ix2 0 l)) (v7 (ix2 0 l)) w := by
  rw [sampleK, ← noise_apply v209 _ w hw, ← mean_apply v0 v18 v244 r l, ← decay_apply v0 v244 r l, ← var_apply v0 v10 l]
  pointwise [k0_pay7, k0_pay48]

end Cert.KernelIdeal.Chunk

end
-- ==== Proof.KernelBlock.lean ====
/- What one grid point leaves in the result's block: the pieces that its loop's trips store, read back, are the element's formula
   at every place of the block. -/
module

public import proofs.«01_k».proof.Proof.Gen.KernelIdeal.Value
public import proofs.«01_k».proof.Proof.KernelChunk
public import Idealize.ShloMosaic.Lib.WholeRead
public import Idealize.ShloMosaic.Lib.Writes

@[expose] public section

noncomputable section

namespace Cert.KernelIdeal.Block

open Idealize.ShloMosaic Idealize.ShloMosaic.TcCoe Cert.Words Cert.Scalar Cert.KernelIdeal Cert.KernelIdeal.Gen Cert.KernelIdeal.Words
  Cert.KernelIdeal.Chunk

/-- The linear index of a place of grid point `p`'s block, of 1024 rows of 768. -/
def linear (p r l : ℕ) : BitVec 32 := BitVec.ofNat 32 ((p * 1024 + r) * 768 + l)

/-- The linear index of a trip's row and column, as the kernel adds it up, and the key's second word. -/
theorem linear_sum (p r l k : ℕ) :
    (BitVec.ofNat 32 r * 768#32 + BitVec.ofNat 32 l)
        + ((BitVec.ofNat 32 p * 786432#32 + (0#32 + BitVec.ofNat 32 k * 1#32) * 6144#32) + 42#32)
      = linear p (8 * k + r) l + 42#32 := by
  apply BitVec.eq_of_toNat_eq
  simp only [linear, BitVec.toNat_add, BitVec.toNat_mul, BitVec.toNat_ofNat, Nat.add_mod_mod, Nat.mod_add_mod, Nat.mod_mul_mod,
    Nat.mul_mod_mod]
  congr 1
  ring

/-- The words that trip `k` starts from: the linear indices of its eight rows, and the key's second word. -/
theorem count (p : ℕ) (k : Fin k0_t1_loop.trips) (r : Fin 8) (l : Fin 768) :
    k0_pay8 (BitVec.ofNat 32 p) k0_pay6 0#32 1#32 k (ix2 r l) = linear p (8 * k.val + r.val) l.val + 42 := by
  pointwise [k0_pay8, k0_pay6]
  exact linear_sum p r.val l.val k.val

/-- The first row of a trip. -/
theorem off1 : ∀ k : Fin k0_t1_loop.trips, k0_off1 k = ![8 * k.val, 0] := by decide +kernel

/-- The first row of a trip's store. -/
theorem off2 : ∀ k : Fin k0_t1_loop.trips, k0_off2 k = ![8 * k.val, 0] := by decide +kernel

/-- The element at a place of a block, of the block of times and the parameters' rows. -/
def cell (p : ℕ) (x0 : Vec Ideal S1024x1 .f32) (x1 x2 x3 x4 : Vec Ideal S1x768 .f32) (y : S1024x768.Idx) : EReal :=
  sampleK (x0 (ix2 (y 0) 0)) (x1 (ix2 0 (y 1))) (x2 (ix2 0 (y 1))) (x3 (ix2 0 (y 1))) (x4 (ix2 0 (y 1)))
    (word (linear p (y 0).val (y 1).val))

section Trip

variable (c : Dev nD) (i : grid0.Coords) (arg1 : Memref sig .tc .vmem S1024x1 .f32) (harg1 : arg1.IsWhole)
  (arg2 : Memref sig .tc .vmem S1x768 .f32) (harg2 : arg2.IsWhole) (arg3 : Memref sig .tc .vmem S1x768 .f32) (harg3 : arg3.IsWhole)
  (arg4 : Memref sig .tc .vmem S1x768 .f32) (harg4 : arg4.IsWhole) (arg5 : Memref sig .tc .vmem S1x768 .f32) (harg5 : arg5.IsWhole)
  (arg6 : Memref sig .tc .vmem S1024x768 .f32) (harg6 : arg6.IsWhole)
  (x0 : Vec Ideal S1024x1 .f32) (x1 x2 x3 x4 : Vec Ideal S1x768 .f32)

/-- What trip `k` stores: the generated payloads at the words, the times and the parameters. -/
def stored (arg0 : BitVec 32) (v0 v7 v10 v18 : Vec Ideal S1x768 .f32) (X : BufTy.Contents (Elt Ideal) arg1.view.ty)
    (k : Fin k0_t1_loop.trips) : FVec Ideal S8x768 .f32 :=
  k0_pay7 v0 v7 v10
    (k0_pay45 (k0_pay43 (words3 arg0 k0_pay6 0#32 1#32 k k0_pay41) (words3 arg0 k0_pay6 0#32 1#32 k k0_pay42)) k0_pay44)
    (k0_pay47 (k0_pay3 v18) (k0_pay4 v0) (View.readAt (Elt Ideal) arg1.view (Rect.unit (s := S1024x1) (k0_off1 k) S8x1.size (k0_off1_inb k)).toLoadRect X))
    (k0_pay48 (k0_pay2 v0 v10))
    (k0_pay49 (k0_pay5 v0) (View.readAt (Elt Ideal) arg1.view (Rect.unit (s := S1024x1) (k0_off1 k) S8x1.size (k0_off1_inb k)).toLoadRect X))

/-- The generated pieces of trip `k`: one store. -/
theorem trip_pieces (arg0 : BitVec 32) (v0 v7 v10 v18 : Vec Ideal S1x768 .f32) (X : BufTy.Contents (Elt Ideal) arg1.view.ty)
    (k : Fin k0_t1_loop.trips) :
    tripL_k0_t1 Variants.none c none i arg1 harg1 arg2 harg2 arg3 harg3 arg4 harg4 arg5 harg5 arg6 harg6 arg0 v0 v7 v10 v18 X k
      = [⟨Rect.unit (k0_off2 k) S8x768.size (k0_off2_inb k), stored arg1 arg0 v0 v7 v10 v18 X k⟩] := by
  unfold tripL_k0_t1 trip_k0_t1
  rfl

/-- Every piece of the trips before `n` is some trip's store. -/
theorem pieces_mem (arg0 : BitVec 32) (v0 v7 v10 v18 : Vec Ideal S1x768 .f32) (X : BufTy.Contents (Elt Ideal) arg1.view.ty) :
    ∀ n ≤ k0_t1_loop.trips, ∀ p ∈ pb_k0_t1 Variants.none c none i arg1 harg1 arg2 harg2 arg3 harg3 arg4 harg4 arg5 harg5 arg6 harg6
        arg0 v0 v7 v10 v18 X n,
      ∃ k : Fin k0_t1_loop.trips, p = ⟨Rect.unit (k0_off2 k) S8x768.size (k0_off2_inb k), stored arg1 arg0 v0 v7 v10 v18 X k⟩
  | 0, _, p, hp => absurd hp List.not_mem_nil
  | n + 1, hn, p, hp => by
    rw [pb_k0_t1_succ Variants.none c none i arg1 harg1 arg2 harg2 arg3 harg3 arg4 harg4 arg5 harg5 arg6 harg6 arg0 v0 v7 v10 v18 X
      ⟨n, hn⟩, List.mem_append] at hp
    rcases hp with hp | hp
    · rw [trip_pieces, List.mem_singleton] at hp
      exact ⟨⟨n, hn⟩, hp⟩
    · exact pieces_mem arg0 v0 v7 v10 v18 X n (Nat.le_of_succ_le hn) p hp

/-- A trip's store is the element's formula at its places of the block. -/
theorem stored_apply (p : ℕ) (k : Fin k0_t1_loop.trips) (x : S8x768.Idx) :
    stored arg1 (BitVec.ofNat 32 p) x2 x4 x1 x3 (harg1.unread x0) k x
      = cell p x0 x1 x2 x3 x4 ((Rect.unit (s := S1024x768) (k0_off2 k) S8x768.size (k0_off2_inb k)).emb x) := by
  obtain ⟨r, l, rfl⟩ : ∃ (r : Fin 8) (l : Fin 768), x = ix2 r l := ⟨x 0, x 1, by idx_ext⟩
  have e0 : (((Rect.unit (s := S1024x768) (k0_off2 k) S8x768.size (k0_off2_inb k)).emb (ix2 r l)) 0).val = 8 * k.val + r.val := by
    show k0_off2 k 0 + 1 * r.val = _
    rw [off2, one_mul]
    rfl
  have e1 : (((Rect.unit (s := S1024x768) (k0_off2 k) S8x768.size (k0_off2_inb k)).emb (ix2 r l)) 1) = l := by
    apply Fin.ext
    show k0_off2 k 1 + 1 * l.val = _
    rw [off2, one_mul]
    exact Nat.zero_add _
  have et : View.readAt (Elt Ideal) arg1.view (Rect.unit (s := S1024x1) (k0_off1 k) S8x1.size (k0_off1_inb k)).toLoadRect (harg1.unread x0) (ix2 r 0)
      = x0 (ix2 (((Rect.unit (s := S1024x768) (k0_off2 k) S8x768.size (k0_off2_inb k)).emb (ix2 r l)) 0) 0) := by
    rw [harg1.readAt_unread]
    congr 1
    funext a
    apply Fin.ext
    match a with
    | ⟨0, _⟩ =>
      refine Eq.trans ?_ e0.symm
      show k0_off1 k 0 + 1 * r.val = _
      rw [off1, one_mul]
      rfl
    | ⟨1, _⟩ =>
      show k0_off1 k 1 + 1 * 0 = 0
      rw [off1]
      rfl
  rw [stored, store_apply _ _ _ _ _ r l _ (word (linear p (8 * k.val + r.val) l.val)) (chunk_words _ _ _ _ _ _ _ (count p k r l)),
    et, cell, e1, e0]

/-- The whole block of a parameter, read. -/
theorem row_read (m : Memref sig .tc .vmem S1x768 .f32) (h : m.IsWhole) (x : Vec Ideal S1x768 .f32) :
    View.readAt (Elt Ideal) m.view (Rect.unit (s := S1x768) ![0, 0] ![1, 768] inb_S1x768_S1x768_0_0).toLoadRect (h.unread x) = x := by
  funext y
  rw [h.readAt_unread]
  congr 1
  funext a
  apply Fin.ext
  match a with
  | ⟨0, _⟩ => show 0 + 1 * (y 0).val = (y 0).val; omega
  | ⟨1, _⟩ => show 0 + 1 * (y 1).val = (y 1).val; omega

/-- The block after the body: the element's formula at every place. -/
theorem out_apply (y : S1024x768.Idx) :
    out0_A_5 c i arg1 harg1 arg2 harg2 arg3 harg3 arg4 harg4 arg5 harg5 arg6 harg6 x0 x1 x2 x3 x4 y
      = cell (i 0).val x0 x1 x2 x3 x4 y := by
  have hL : (kernelRun0_A c i arg1 harg1 arg2 harg2 arg3 harg3 arg4 harg4 arg5 harg5 arg6 harg6 x0 x1 x2 x3 x4).1
      = pb_k0_t1 Variants.none c none i arg1 harg1 arg2 harg2 arg3 harg3 arg4 harg4 arg5 harg5 arg6 harg6
        (BitVec.ofNat 32 (i 0).val) x2 x4 x1 x3 (harg1.unread x0) k0_t1_loop.trips := by
    unfold kernelRun0_A
    dsimp only
    rw [row_read, row_read, row_read, row_read]
  unfold out0_A_5
  refine View.read_writes_apply_of_pieces _ _ (cell (i 0).val x0 x1 x2 x3 x4) _ ?_ y
    (cover0_A_5 c i arg1 harg1 arg2 harg2 arg3 harg3 arg4 harg4 arg5 harg5 arg6 harg6 x0 x1 x2 x3 x4 y)
  rw [hL]
  intro p hp x
  obtain ⟨k, rfl⟩ := pieces_mem c i arg1 harg1 arg2 harg2 arg3 harg3 arg4 harg4 arg5 harg5 arg6 harg6 _ _ _ _ _ _ _ (le_refl _) p hp
  exact stored_apply arg1 harg1 x0 x1 x2 x3 x4 _ k x

end Trip

end Cert.KernelIdeal.Block

end
-- ==== Proof.KernelArray.lean ====
/- What the kernel's result array holds after the run: the element's formula at every place, of the arguments. -/
module

public import proofs.«01_k».proof.Proof.KernelBlock
public import Idealize.ShloMosaic.Lib.StableHlo.Run

@[expose] public section

noncomputable section

namespace Cert.KernelIdeal.Array

open Idealize.ShloMosaic Idealize.ShloMosaic.TcCoe Idealize.ShloMosaic.StableHlo Idealize.SL.Sem
open Cert.Words Cert.Scalar Cert.KernelIdeal Cert.KernelIdeal.Gen Cert.KernelIdeal.Value Cert.KernelIdeal.Block

variable (m : (ℓ : Loc nD τ sig) → Buf (Elt Ideal) ℓ) (c : Dev nD)

/-- The times as the region finds them: one column. -/
theorem times : V m c main_v0 = shapeCast S32768x1 (m ((c : Thread nD τ).loc main_arg0)) shapeCasts_S4x8192x1_S32768x1 := by
  unfold V
  after_results
  rfl

/-- A parameter as the region finds it: one row. -/
theorem params1 : V m c main_v1 = shapeCast S1x768 (m ((c : Thread nD τ).loc main_arg1)) shapeCasts_S768_S1x768 := by
  unfold V
  after_results
  rfl
theorem params2 : V m c main_v2 = shapeCast S1x768 (m ((c : Thread nD τ).loc main_arg2)) shapeCasts_S768_S1x768 := by
  unfold V
  after_results
  rfl
theorem params3 : V m c main_v3 = shapeCast S1x768 (m ((c : Thread nD τ).loc main_arg3)) shapeCasts_S768_S1x768 := by
  unfold V
  after_results
  rfl
theorem params4 : V m c main_v4 = shapeCast S1x768 (m ((c : Thread nD τ).loc main_arg4)) shapeCasts_S768_S1x768 := by
  unfold V
  after_results
  rfl

/-- The grid's coordinate at a point, and the blocks' indices there. -/
theorem coords_val : ∀ t : Fin cfg0.N, (grid0.coords t 0).val = t.val :=
  (by decide +kernel : ∀ t : Fin grid0.N, (grid0.coords t 0).val = t.val)
theorem index0 : ∀ t : Fin cfg0.N, win0_0.index t 0 = t.val ∧ win0_0.index t 1 = 0 :=
  (by decide +kernel : ∀ t : Fin grid0.N, win0_0.index t 0 = t.val ∧ win0_0.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

/-- The block of times at a point: its 1024 rows. -/
theorem block_times (t : Fin cfg0.N) (r : Fin 1024) (R : Fin 32768) (hR : R.val = t.val * 1024 + r.val) :
    (iblk m c 0 t : Vec Ideal S1024x1 .f32) (ix2 r 0) = V m c main_v0 (ix2 R 0) := by
  unfold iblk
  rw [View.read_apply]
  show V m c main_v0 _ = V m c main_v0 _
  congr 1
  funext a
  apply Fin.ext
  match a with
  | ⟨0, _⟩ => show win0_0.index t 0 * 1024 + 1 * r.val = R.val; rw [(index0 t).1, hR]; omega
  | ⟨1, _⟩ => show win0_0.index t 1 * 1 + 1 * 0 = 0; rw [(index0 t).2]

/-- A parameter's block is its whole row. -/
theorem block_param1 (t : Fin cfg0.N) (l : Fin 768) : (iblk m c 1 t : Vec Ideal S1x768 .f32) (ix2 0 l) = V m c main_v1 (ix2 0 l) := by
  unfold iblk
  rw [View.read_apply]
  show V m c main_v1 _ = V m c main_v1 _
  congr 1
  funext a
  apply Fin.ext
  match a with
  | ⟨0, _⟩ => rfl
  | ⟨1, _⟩ => show 0 * 768 + 1 * l.val = l.val; omega
theorem block_param2 (t : Fin cfg0.N) (l : Fin 768) : (iblk m c 2 t : Vec Ideal S1x768 .f32) (ix2 0 l) = V m c main_v2 (ix2 0 l) := by
  unfold iblk
  rw [View.read_apply]
  show V m c main_v2 _ = V m c main_v2 _
  congr 1
  funext a
  apply Fin.ext
  match a with
  | ⟨0, _⟩ => rfl
  | ⟨1, _⟩ => show 0 * 768 + 1 * l.val = l.val; omega
theorem block_param3 (t : Fin cfg0.N) (l : Fin 768) : (iblk m c 3 t : Vec Ideal S1x768 .f32) (ix2 0 l) = V m c main_v3 (ix2 0 l) := by
  unfold iblk
  rw [View.read_apply]
  show V m c main_v3 _ = V m c main_v3 _
  congr 1
  funext a
  apply Fin.ext
  match a with
  | ⟨0, _⟩ => rfl
  | ⟨1, _⟩ => show 0 * 768 + 1 * l.val = l.val; omega
theorem block_param4 (t : Fin cfg0.N) (l : Fin 768) : (iblk m c 4 t : Vec Ideal S1x768 .f32) (ix2 0 l) = V m c main_v4 (ix2 0 l) := by
  unfold iblk
  rw [View.read_apply]
  show V m c main_v4 _ = V m c main_v4 _
  congr 1
  funext a
  apply Fin.ext
  match a with
  | ⟨0, _⟩ => rfl
  | ⟨1, _⟩ => show 0 * 768 + 1 * l.val = l.val; omega

/-- One element of the kernel's result, of the arguments: row `R` is row `s` of batch `b`. -/
def element (b : Fin 4) (s : Fin 8192) (l : Fin 768) : EReal :=
  sampleK ((m ((c : Thread nD τ).loc main_arg0) : FVec Ideal S4x8192x1 .f32) (ix3 b s 0)) ((m ((c : Thread nD τ).loc main_arg1) : FVec Ideal S768 .f32) (ix1 l))
    ((m ((c : Thread nD τ).loc main_arg2) : FVec Ideal S768 .f32) (ix1 l)) ((m ((c : Thread nD τ).loc main_arg3) : FVec Ideal S768 .f32) (ix1 l))
    ((m ((c : Thread nD τ).loc main_arg4) : FVec Ideal S768 .f32) (ix1 l)) (word (BitVec.ofNat 32 ((b.val * 8192 + s.val) * 768 + l.val)))

/-- The times at a row. -/
theorem times_apply (b : Fin 4) (s : Fin 8192) (R : Fin 32768) (hR : R.val = b.val * 8192 + s.val) :
    V m c main_v0 (ix2 R 0) = (m ((c : Thread nD τ).loc main_arg0) : FVec Ideal S4x8192x1 .f32) (ix3 b s 0) := by
  rw [times]
  refine shapeCast_apply _ _ _ (ix3 b s 0) ?_
  rw [Shape.rowMajor_val_two, Shape.rowMajor_val_three]
  show (b.val * 8192 + s.val) * 1 + 0 = R.val * 1 + 0
  omega

/-- A parameter at a lane. -/
theorem param1_apply (l : Fin 768) : V m c main_v1 (ix2 0 l) = (m ((c : Thread nD τ).loc main_arg1) : FVec Ideal S768 .f32) (ix1 l) := by
  rw [params1]
  refine shapeCast_apply _ _ _ (ix1 l) ?_
  rw [Shape.rowMajor_val_two, Shape.rowMajor_val_one]
  show l.val = 0 * 768 + l.val
  omega
/-- A parameter at a lane. -/
theorem param2_apply (l : Fin 768) : V m c main_v2 (ix2 0 l) = (m ((c : Thread nD τ).loc main_arg2) : FVec Ideal S768 .f32) (ix1 l) := by
  rw [params2]
  refine shapeCast_apply _ _ _ (ix1 l) ?_
  rw [Shape.rowMajor_val_two, Shape.rowMajor_val_one]
  show l.val = 0 * 768 + l.val
  omega
/-- A parameter at a lane. -/
theorem param3_apply (l : Fin 768) : V m c main_v3 (ix2 0 l) = (m ((c : Thread nD τ).loc main_arg3) : FVec Ideal S768 .f32) (ix1 l) := by
  rw [params3]
  refine shapeCast_apply _ _ _ (ix1 l) ?_
  rw [Shape.rowMajor_val_two, Shape.rowMajor_val_one]
  show l.val = 0 * 768 + l.val
  omega
/-- A parameter at a lane. -/
theorem param4_apply (l : Fin 768) : V m c main_v4 (ix2 0 l) = (m ((c : Thread nD τ).loc main_arg4) : FVec Ideal S768 .f32) (ix1 l) := by
  rw [params4]
  refine shapeCast_apply _ _ _ (ix1 l) ?_
  rw [Shape.rowMajor_val_two, Shape.rowMajor_val_one]
  show l.val = 0 * 768 + l.val
  omega

/-- What a point flushes, at a place of its block. -/
theorem flushed_apply (t : Fin cfg0.N) (r : Fin 1024) (b : Fin 4) (s : Fin 8192) (l : Fin 768) (h : t.val * 1024 + r.val = b.val * 8192 + s.val) :
    ((dats m 0 c).flushed 5 t : Vec Ideal S1024x768 .f32) (ix2 r l) = element m c b s l := by
  rw [flushed5_A]
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (ix2 r l)).trans ?_
  have h0 := block_times m c t r ⟨b.val * 8192 + s.val, by omega⟩ h.symm
  have h1 := (block_param1 m c t l).trans (param1_apply m c l)
  have h2 := (block_param2 m c t l).trans (param2_apply m c l)
  have h3 := (block_param3 m c t l).trans (param3_apply m c l)
  have h4 := (block_param4 m c t l).trans (param4_apply m c l)
  rw [times_apply m c b s _ rfl] at h0
  unfold cell element linear
  rw [coords_val t]
  simp only [ix2_0, ix2_1]
  rw [h0, h1, h2, h3, h4, h]

/-- THE KERNEL'S RESULT ARRAY at a place. -/
theorem array_apply (b : Fin 4) (s : Fin 8192) (l : Fin 768) (R : Fin 32768) (hR : R.val = b.val * 8192 + s.val) :
    ((dats m 0 c).arrAt 5 cfg0.N : Vec Ideal S32768x768 .f32) (ix2 R l) = element m c b s l := by
  have hN : cfg0.N = 32 := N_0
  let t : Fin cfg0.N := ⟨R.val / 1024, by omega⟩
  let r : Fin 1024 := ⟨R.val % 1024, by omega⟩
  have ht : t.val * 1024 + r.val = R.val := by show R.val / 1024 * 1024 + R.val % 1024 = R.val; omega
  have e := congrFun (blocks5 m c t (flush0_5 t)) (ix2 r l)
  refine Eq.trans ?_ (e.trans (flushed_apply m c t r b s l (ht.trans hR)))
  rw [View.read_apply]
  show ((dats m 0 c).arrAt 5 cfg0.N : Vec Ideal S32768x768 .f32) _ = ((dats m 0 c).arrAt 5 cfg0.N : Vec Ideal S32768x768 .f32) _
  congr 1
  funext a
  apply Fin.ext
  match a with
  | ⟨0, _⟩ => show R.val = win0_5.index t 0 * 1024 + 1 * r.val; rw [(index5 t).1]; omega
  | ⟨1, _⟩ => show l.val = win0_5.index t 1 * 768 + 1 * l.val; rw [(index5 t).2]; omega

end Cert.KernelIdeal.Array

end
-- ==== Proof.ReferenceWords.lean ====
/- The words the reference computes are Threefry's at the linear index: its named intermediate arrays, one round at a time. -/
module

public import proofs.«01_k».proof.Proof.Gen.ReferenceIdeal.Run
public import proofs.«01_k».proof.Proof.Threefry
public import Idealize.ShloMosaic.Lib.Pointwise
public import Idealize.ShloMosaic.Lib.Pipeline.Value

@[expose] public section

noncomputable section

namespace Cert.ReferenceIdeal.Words

open Idealize.ShloMosaic Cert.Words Cert.ReferenceIdeal.Value Cert.ReferenceIdeal.Gen

variable {F : FTy → Type} [FloatOps F] (V : Valuation τ sig (Elt F))

/-- The two words of the key's array. -/
theorem key_array (p : S2.Idx) : res_main_v43 V p = if (p 0).val = 0 then 0#32 else 42#32 := by
  unfold res_main_v43
  pointwise
  by_cases h : (p 0).val = 0
  · rw [if_pos h, dif_pos (by omega)]
    rfl
  · rw [if_neg h, dif_neg (by omega)]
    show (42#32 &&& 4294967295#32) = 42#32
    decide

/-- The key's first word is 0. -/
theorem key_0 (q : S_.Idx) : res_main_v45 V q = 0#32 := by
  unfold res_main_v45
  pointwise
  exact key_array V _

/-- The key's second word is 42. -/
theorem key_1 (q : S_.Idx) : res_main_v47 V q = 42#32 := by
  unfold res_main_v47
  pointwise
  exact key_array V _

/-- The key's third word. -/
theorem key_2 (q : S_.Idx) : res_main_v49 V q = key2 := by
  have h : res_main_v49 V q = xori (xori (res_main_v45 V) (res_main_v47 V)) (constantI S_ 32 466688986#32) q := rfl
  rw [h, xori_apply, xori_apply, key_0, key_1]
  show ((0#32 ^^^ 42#32) ^^^ 466688986#32) = key2
  decide

/-- A word of an array of words. -/
abbrev at_ (x : IVec S4x8192x768 32) (j : S4x8192x768.Idx) : BitVec 32 := x j

/-- A constant of the words' shape. -/
abbrev all (c : BitVec 32) : IVec S4x8192x768 32 := broadcastInDim S4x8192x768 ![] bcast_S_S4x8192x768 (constantI S_ 32 c)

/-- One round on arrays: from the array of sums, and the second words. -/
theorem round (n : ℕ) (l r : BitVec 32) (hn : l.toNat = n) (hr : r.toNat = 32 - n) (h0 : 0 < n) (h32 : n < 32)
    (x0 x1 : IVec S4x8192x768 32) (j : S4x8192x768.Idx) :
    mix n (x0 j, x1 j) = (addi x0 x1 j, xori (addi x0 x1) (ori (Host.shli x1 (all l)) (Host.shrui x1 (all r))) j) := by
  subst hn
  have e1 : Host.shli x1 (all l) j = x1 j <<< l.toNat := if_pos h32
  have e2 : Host.shrui x1 (all r) j = x1 j >>> r.toNat := if_pos (show r.toNat < 32 by omega)
  rw [xori_apply, ori_apply, e1, e2, hr]
  rfl

/-- A word of the key at every index. -/
abbrev keyed (k : IVec S_ 32) : IVec S4x8192x768 32 := broadcastInDim S4x8192x768 ![] bcast_S_S4x8192x768 k

/-- The last round of a group and the key after it. -/
theorem round_inject (n : ℕ) (l r : BitVec 32) (hn : l.toNat = n) (hr : r.toNat = 32 - n) (h0 : 0 < n) (h32 : n < 32)
    (a b c : BitVec 32) (k0 k1 : IVec S_ 32) (h0' : ∀ q, k0 q = a) (h1' : ∀ q, k1 q = b)
    (x0 x1 : IVec S4x8192x768 32) (j : S4x8192x768.Idx) :
    inject a b c (mix n (x0 j, x1 j)) = (addi (addi x0 x1) (keyed k0) j,
      addi (addi (xori (addi x0 x1) (ori (Host.shli x1 (all l)) (Host.shrui x1 (all r)))) (keyed k1)) (all c) j) := by
  have e0 : keyed k0 j = a := h0' _
  have e1 : keyed k1 j = b := h1' _
  rw [round n l r hn hr h0 h32, addi_apply (addi x0 x1), addi_apply _ (all c), addi_apply _ (keyed k1), e0, e1]
  rfl

variable (j : S4x8192x768.Idx)

/-- The second words at first: the linear index and the key's second word. -/
theorem count : at_ (res_main_v56 V) j = BitVec.ofNat 32 (S4x8192x768.rowMajor j).val + 42 := by
  have h : at_ (res_main_v56 V) j
      = at_ (shapeCast S4x8192x768 (iotaInDim S25165824 32 0) shapeCasts_S25165824_S4x8192x768) j + at_ (keyed (res_main_v47 V)) j := rfl
  have e : shapeCast S4x8192x768 (iotaInDim S25165824 32 0) shapeCasts_S25165824_S4x8192x768 j
      = BitVec.ofNat 32 (S4x8192x768.rowMajor j).val :=
    shapeCast_apply (s := S25165824) (iotaInDim S25165824 32 0) _ j (ix1 ⟨(S4x8192x768.rowMajor j).val, (S4x8192x768.rowMajor j).isLt⟩)
      (Shape.rowMajor_val_one _)
  rw [h, at_, at_, show keyed (res_main_v47 V) j = 42#32 from key_1 V _, e]
  rfl

/-- The first group of four rounds and the key after it. -/
theorem group1 : inject 42 key2 1 (roundsA (0, at_ (res_main_v56 V) j))
    = (at_ (addi (res_main_v78 V) (keyed (res_main_v47 V))) j, at_ (res_main_v90 V) j) := by
  have h1 : mix 13 (0, at_ (res_main_v56 V) j) = (at_ (res_main_v57 V) j, at_ (res_main_v63 V) j) := by
    refine Eq.trans ?_ (round 13 13 19 rfl rfl (by decide) (by decide)
      (addi (all 0) (keyed (res_main_v45 V))) (res_main_v56 V) j)
    rw [addi_apply, show keyed (res_main_v45 V) j = 0#32 from key_0 V _]
    rfl
  have h2 : mix 15 (at_ (res_main_v57 V) j, at_ (res_main_v63 V) j) = (at_ (res_main_v64 V) j, at_ (res_main_v70 V) j) :=
    round 15 15 17 rfl rfl (by decide) (by decide) (res_main_v57 V) (res_main_v63 V) j
  have h3 : mix 26 (at_ (res_main_v64 V) j, at_ (res_main_v70 V) j) = (at_ (res_main_v71 V) j, at_ (res_main_v77 V) j) :=
    round 26 26 6 rfl rfl (by decide) (by decide) (res_main_v64 V) (res_main_v70 V) j
  rw [roundsA, h1, h2, h3]
  exact round_inject 6 6 26 rfl rfl (by decide) (by decide) 42 key2 1 (res_main_v47 V) (res_main_v49 V) (key_1 V) (key_2 V) (res_main_v71 V) (res_main_v77 V) j

/-- The second group of four rounds and the key after it. -/
theorem group2 : inject key2 0 2 (roundsB (at_ (addi (res_main_v78 V) (keyed (res_main_v47 V))) j, at_ (res_main_v90 V) j))
    = (at_ (addi (res_main_v112 V) (keyed (res_main_v49 V))) j, at_ (res_main_v124 V) j) := by
  have h1 : mix 17 (at_ (addi (res_main_v78 V) (keyed (res_main_v47 V))) j, at_ (res_main_v90 V) j) = (at_ (res_main_v91 V) j, at_ (res_main_v97 V) j) :=
    round 17 17 15 rfl rfl (by decide) (by decide) (addi (res_main_v78 V) (keyed (res_main_v47 V))) (res_main_v90 V) j
  have h2 : mix 29 (at_ (res_main_v91 V) j, at_ (res_main_v97 V) j) = (at_ (res_main_v98 V) j, at_ (res_main_v104 V) j) :=
    round 29 29 3 rfl rfl (by decide) (by decide) (res_main_v91 V) (res_main_v97 V) j
  have h3 : mix 16 (at_ (res_main_v98 V) j, at_ (res_main_v104 V) j) = (at_ (res_main_v105 V) j, at_ (res_main_v111 V) j) :=
    round 16 16 16 rfl rfl (by decide) (by decide) (res_main_v98 V) (res_main_v104 V) j
  rw [roundsB, h1, h2, h3]
  exact round_inject 24 24 8 rfl rfl (by decide) (by decide) key2 0 2 (res_main_v49 V) (res_main_v45 V) (key_2 V) (key_0 V) (res_main_v105 V) (res_main_v111 V) j

/-- The third group of four rounds and the key after it. -/
theorem group3 : inject 0 42 3 (roundsA (at_ (addi (res_main_v112 V) (keyed (res_main_v49 V))) j, at_ (res_main_v124 V) j))
    = (at_ (addi (res_main_v146 V) (keyed (res_main_v45 V))) j, at_ (res_main_v158 V) j) := by
  have h1 : mix 13 (at_ (addi (res_main_v112 V) (keyed (res_main_v49 V))) j, at_ (res_main_v124 V) j) = (at_ (res_main_v125 V) j, at_ (res_main_v131 V) j) :=
    round 13 13 19 rfl rfl (by decide) (by decide) (addi (res_main_v112 V) (keyed (res_main_v49 V))) (res_main_v124 V) j
  have h2 : mix 15 (at_ (res_main_v125 V) j, at_ (res_main_v131 V) j) = (at_ (res_main_v132 V) j, at_ (res_main_v138 V) j) :=
    round 15 15 17 rfl rfl (by decide) (by decide) (res_main_v125 V) (res_main_v131 V) j
  have h3 : mix 26 (at_ (res_main_v132 V) j, at_ (res_main_v138 V) j) = (at_ (res_main_v139 V) j, at_ (res_main_v145 V) j) :=
    round 26 26 6 rfl rfl (by decide) (by decide) (res_main_v132 V) (res_main_v138 V) j
  rw [roundsA, h1, h2, h3]
  exact round_inject 6 6 26 rfl rfl (by decide) (by decide) 0 42 3 (res_main_v45 V) (res_main_v47 V) (key_0 V) (key_1 V) (res_main_v139 V) (res_main_v145 V) j

/-- The fourth group of four rounds and the key after it. -/
theorem group4 : inject 42 key2 4 (roundsB (at_ (addi (res_main_v146 V) (keyed (res_main_v45 V))) j, at_ (res_main_v158 V) j))
    = (at_ (addi (res_main_v180 V) (keyed (res_main_v47 V))) j, at_ (res_main_v192 V) j) := by
  have h1 : mix 17 (at_ (addi (res_main_v146 V) (keyed (res_main_v45 V))) j, at_ (res_main_v158 V) j) = (at_ (res_main_v159 V) j, at_ (res_main_v165 V) j) :=
    round 17 17 15 rfl rfl (by decide) (by decide) (addi (res_main_v146 V) (keyed (res_main_v45 V))) (res_main_v158 V) j
  have h2 : mix 29 (at_ (res_main_v159 V) j, at_ (res_main_v165 V) j) = (at_ (res_main_v166 V) j, at_ (res_main_v172 V) j) :=
    round 29 29 3 rfl rfl (by decide) (by decide) (res_main_v159 V) (res_main_v165 V) j
  have h3 : mix 16 (at_ (res_main_v166 V) j, at_ (res_main_v172 V) j) = (at_ (res_main_v173 V) j, at_ (res_main_v179 V) j) :=
    round 16 16 16 rfl rfl (by decide) (by decide) (res_main_v166 V) (res_main_v172 V) j
  rw [roundsB, h1, h2, h3]
  exact round_inject 24 24 8 rfl rfl (by decide) (by decide) 42 key2 4 (res_main_v47 V) (res_main_v49 V) (key_1 V) (key_2 V) (res_main_v173 V) (res_main_v179 V) j

/-- The second words at the end, before the two words are combined. -/
abbrev last : IVec S4x8192x768 32 :=
  addi (addi (xori (res_main_v214 V) (ori (Host.shli (res_main_v213 V) (all 6)) (Host.shrui (res_main_v213 V) (all 26)))) (keyed (res_main_v45 V))) (all 5)

/-- The fifth group of four rounds and the key after it. -/
theorem group5 : inject key2 0 5 (roundsA (at_ (addi (res_main_v180 V) (keyed (res_main_v47 V))) j, at_ (res_main_v192 V) j))
    = (at_ (addi (res_main_v214 V) (keyed (res_main_v49 V))) j, at_ (last V) j) := by
  have h1 : mix 13 (at_ (addi (res_main_v180 V) (keyed (res_main_v47 V))) j, at_ (res_main_v192 V) j) = (at_ (res_main_v193 V) j, at_ (res_main_v199 V) j) :=
    round 13 13 19 rfl rfl (by decide) (by decide) (addi (res_main_v180 V) (keyed (res_main_v47 V))) (res_main_v192 V) j
  have h2 : mix 15 (at_ (res_main_v193 V) j, at_ (res_main_v199 V) j) = (at_ (res_main_v200 V) j, at_ (res_main_v206 V) j) :=
    round 15 15 17 rfl rfl (by decide) (by decide) (res_main_v193 V) (res_main_v199 V) j
  have h3 : mix 26 (at_ (res_main_v200 V) j, at_ (res_main_v206 V) j) = (at_ (res_main_v207 V) j, at_ (res_main_v213 V) j) :=
    round 26 26 6 rfl rfl (by decide) (by decide) (res_main_v200 V) (res_main_v206 V) j
  rw [roundsA, h1, h2, h3]
  exact round_inject 6 6 26 rfl rfl (by decide) (by decide) key2 0 5 (res_main_v49 V) (res_main_v45 V) (key_2 V) (key_0 V) (res_main_v207 V) (res_main_v213 V) j

/-- The patterns of the floats of `[1, 2)`. -/
abbrev patterns : IVec S4x8192x768 32 :=
  ori (Host.shrui (xori (addi (res_main_v214 V) (keyed (res_main_v49 V))) (last V)) (all 9)) (all 1065353216)

/-- The pattern at an index: the mantissa of the random word at the linear index. -/
theorem patterns_apply : at_ (patterns V) j = mantissa (word (BitVec.ofNat 32 (S4x8192x768.rowMajor j).val)) := by
  rw [word, threefry, ← count V, group1, group2, group3, group4, group5]
  rfl

end Cert.ReferenceIdeal.Words

end
-- ==== Proof.ReferenceElement.lean ====
/- The reference's result at an index: the element's formula of the arguments' elements and the random word of the linear index. -/
module

public import proofs.«01_k».proof.Proof.ReferenceWords
public import proofs.«01_k».proof.Proof.Scalar

@[expose] public section

noncomputable section

namespace Cert.ReferenceIdeal.Element

open Idealize.ShloMosaic Cert.Words Cert.Scalar Cert.ReferenceIdeal.Value Cert.ReferenceIdeal.Gen Cert.ReferenceIdeal.Words

/-- The result's shape. -/
abbrev Big := FVec Ideal S4x8192x768 .f32

section Pieces

variable (b : Fin 4) (s : Fin 8192) (l : Fin 768)

/-- The uniform deviates of any patterns. -/
theorem uniform_of (P : IVec S4x8192x768 32) (j : S4x8192x768.Idx) :
    (maximumf (broadcastInDim S4x8192x768 ![] bcast_S_S4x8192x768 (constant S_ .f32 0xBF7FFFFF#32)) (addf (mulf (subf (bitcastToFloat (F := Ideal) .f32 P) (broadcastInDim S4x8192x768 ![] bcast_S_S4x8192x768 (constant S_ .f32 0x3F800000#32))) (broadcastInDim S4x8192x768 ![] bcast_S_S4x8192x768 (constant S_ .f32 0x40000000#32))) (broadcastInDim S4x8192x768 ![] bcast_S_S4x8192x768 (constant S_ .f32 0xBF7FFFFF#32))) : Big) j
      = max (lit 0xBF7FFFFF#32) ((lit (at_ P j) - lit 0x3F800000#32) * lit 0x40000000#32 + lit 0xBF7FFFFF#32) := by
  rw [lit_one]
  pointwise

/-- The fit's arguments of any deviates. -/
theorem depth_of (U : Big) (j : S4x8192x768.Idx) :
    (addf (Host.log1p (mulf (Host.negf U) U)) (broadcastInDim S4x8192x768 ![] bcast_S_S4x8192x768 (constant S_ .f32 0x41000000#32)) : Big) j
      = depth (U j) := by
  rw [depth]
  pointwise

/-- The decay's exponents of any rates and times. -/
theorem decay_of (T : FVec Ideal S768 .f32) (X : FVec Ideal S4x8192x1 .f32) :
    (mulf (broadcastInDim S4x8192x768 ![0, 1, 2] bcast_S1x1x768_S4x8192x768_0_1_2 (broadcastInDim S1x1x768 ![2] bcast_S768_S1x1x768_2 (Host.negf T))) (broadcastInDim S4x8192x768 ![0, 1, 2] bcast_S4x8192x1_S4x8192x768_0_1_2 X) : Big) (ix3 b s l)
      = -T (ix1 l) * X (ix3 b s 0) := by
  pointwise

/-- The result before its last reshape, of any pieces: the decay's exponents, the stationary variances, the means, the logarithms of the
    variances, the deviates, the fit's arguments and its coefficients. -/
abbrev combine (D : Big) (W M L : FVec Ideal S768 .f32) (U Z : Big) (C : FVec Ideal S6 .f32) : Big :=
  addf (mulf (Host.exp D) (broadcastInDim S4x8192x768 ![0, 1, 2] bcast_S1x1x768_S4x8192x768_0_1_2 (broadcastInDim S1x1x768 ![2] bcast_S768_S1x1x768_2 M))) (mulf (Host.sqrt (addf (broadcastInDim S4x8192x768 ![0, 1, 2] bcast_S1x1x768_S4x8192x768_0_1_2 (broadcastInDim S1x1x768 ![2] bcast_S768_S1x1x768_2 W)) (mulf (Host.exp (mulf (broadcastInDim S4x8192x768 ![] bcast_S_S4x8192x768 (constant S_ .f32 0x40000000#32)) D)) (broadcastInDim S4x8192x768 ![0, 1, 2] bcast_S1x1x768_S4x8192x768_0_1_2 (broadcastInDim S1x1x768 ![2] bcast_S768_S1x1x768_2 (subf (Host.exp L) W)))))) (mulf U (addf (mulf (addf (mulf (addf (mulf (addf (mulf (addf (mulf (broadcastInDim S4x8192x768 ![] bcast_S_S4x8192x768 (shapeCast S_ (extractStridedSlice S1 ![0] C slices_S6_S1_0) shapeCasts_S1_S_)) Z) (broadcastInDim S4x8192x768 ![] bcast_S_S4x8192x768 (shapeCast S_ (extractStridedSlice S1 ![1] C slices_S6_S1_1) shapeCasts_S1_S_))) Z) (broadcastInDim S4x8192x768 ![] bcast_S_S4x8192x768 (shapeCast S_ (extractStridedSlice S1 ![2] C slices_S6_S1_2) shapeCasts_S1_S_))) Z) (broadcastInDim S4x8192x768 ![] bcast_S_S4x8192x768 (shapeCast S_ (extractStridedSlice S1 ![3] C slices_S6_S1_3) shapeCasts_S1_S_))) Z) (broadcastInDim S4x8192x768 ![] bcast_S_S4x8192x768 (shapeCast S_ (extractStridedSlice S1 ![4] C slices_S6_S1_4) shapeCasts_S1_S_))) Z) (broadcastInDim S4x8192x768 ![] bcast_S_S4x8192x768 (shapeCast S_ (extractStridedSlice S1 ![5] C slices_S6_S1_5) shapeCasts_S1_S_)))))

/-- The combination at an index. -/
theorem combine_apply (D : Big) (W M L : FVec Ideal S768 .f32) (U Z : Big) (C : FVec Ideal S6 .f32) :
    combine D W M L U Z C (ix3 b s l)
      = Ideal.exp (D (ix3 b s l)) * M (ix1 l)
        + Ideal.sqrt (W (ix1 l) + Ideal.exp (lit 0x40000000#32 * D (ix3 b s l)) * (Ideal.exp (L (ix1 l)) - W (ix1 l)))
          * (U (ix3 b s l) * (((((C (ix1 0) * Z (ix3 b s l) + C (ix1 1)) * Z (ix3 b s l) + C (ix1 2)) * Z (ix3 b s l) + C (ix1 3)) * Z (ix3 b s l) + C (ix1 4)) * Z (ix3 b s l) + C (ix1 5))) := by
  unfold combine
  pointwise

end Pieces

variable (V : Valuation τ sig (Elt Ideal)) (b : Fin 4) (s : Fin 8192) (l : Fin 768)

/-- The rate. -/
theorem theta_apply : (res_main_v9 V : FVec Ideal S768 .f32) (ix1 l) = theta ((V (Proc.devRef .tc main_arg2) : FVec Ideal S768 .f32) (ix1 l)) := by
  unfold res_main_v9
  rw [theta, lit_one]
  pointwise

/-- The stationary variance. -/
theorem var_apply : (res_main_v16 V : FVec Ideal S768 .f32) (ix1 l)
    = varScale ((V (Proc.devRef .tc main_arg1) : FVec Ideal S768 .f32) (ix1 l)) ((V (Proc.devRef .tc main_arg2) : FVec Ideal S768 .f32) (ix1 l)) := by
  rw [varScale, ← theta_apply]
  unfold res_main_v16
  pointwise

/-- The decay's exponent. -/
theorem decay_apply : (res_main_v21 V : Big) (ix3 b s l)
    = -theta ((V (Proc.devRef .tc main_arg2) : FVec Ideal S768 .f32) (ix1 l)) * (V (Proc.devRef .tc main_arg0) : FVec Ideal S4x8192x1 .f32) (ix3 b s 0) := by
  rw [← theta_apply]
  unfold res_main_v21
  exact decay_of b s l _ _

/-- The uniform deviate. -/
theorem uniform_apply (j : S4x8192x768.Idx) :
    (res_main_v240 V : Big) j = uniform (word (BitVec.ofNat 32 (S4x8192x768.rowMajor j).val)) := by
  rw [uniform, ← patterns_apply V j]
  unfold res_main_v240
  exact uniform_of (patterns V) j

/-- The fit's argument. -/
theorem depth_apply (j : S4x8192x768.Idx) : (res_main_v245 V : Big) j = depth ((res_main_v240 V : Big) j) := by
  unfold res_main_v245
  exact depth_of _ j

/-- The fit's coefficients. -/
theorem coefficients : (res_main_cst V : FVec Ideal S6 .f32) (ix1 0) = lit 0x36499C89#32 ∧ (res_main_cst V : FVec Ideal S6 .f32) (ix1 1) = lit 0x37BB9826#32
    ∧ (res_main_cst V : FVec Ideal S6 .f32) (ix1 2) = lit 0xB9C6D332#32 ∧ (res_main_cst V : FVec Ideal S6 .f32) (ix1 3) = lit 0xBC0499CB#32
    ∧ (res_main_cst V : FVec Ideal S6 .f32) (ix1 4) = lit 0xBE7F7F98#32 ∧ (res_main_cst V : FVec Ideal S6 .f32) (ix1 5) = lit 0x40711ECD#32 := by
  have h : ∀ k : Fin 6, (res_main_cst V : FVec Ideal S6 .f32) (ix1 k) = lit (lit0 k) := by
    intro k
    unfold res_main_cst
    show Ideal.ofBits .f32 (lit0 (S6.rowMajor (ix1 k))) = Ideal.ofBits .f32 (lit0 k)
    congr 2
    exact Fin.ext (Shape.rowMajor_val_one _)
  exact ⟨h 0, h 1, h 2, h 3, h 4, h 5⟩

/-- The reference's result before its last reshape. -/
abbrev result : Big :=
  combine (res_main_v21 V) (res_main_v16 V) (V (Proc.devRef .tc main_arg3)) (V (Proc.devRef .tc main_arg4)) (res_main_v240 V) (res_main_v245 V) (res_main_cst V)

/-- The result at an index. -/
theorem result_apply : result V (ix3 b s l)
    = sample ((V (Proc.devRef .tc main_arg0) : FVec Ideal S4x8192x1 .f32) (ix3 b s 0)) ((V (Proc.devRef .tc main_arg1) : FVec Ideal S768 .f32) (ix1 l))
        ((V (Proc.devRef .tc main_arg2) : FVec Ideal S768 .f32) (ix1 l)) ((V (Proc.devRef .tc main_arg3) : FVec Ideal S768 .f32) (ix1 l))
        ((V (Proc.devRef .tc main_arg4) : FVec Ideal S768 .f32) (ix1 l)) (word (BitVec.ofNat 32 (S4x8192x768.rowMajor (ix3 b s l)).val)) := by
  obtain ⟨h0, h1, h2, h3, h4, h5⟩ := coefficients V
  rw [result, combine_apply, h0, h1, h2, h3, h4, h5, depth_apply, uniform_apply, decay_apply, var_apply, sample, quantile, fit]

end Cert.ReferenceIdeal.Element

end
-- ==== Proof.Interval.lean ====
/- Bounds of a polynomial with integer coefficients on an interval of reals: the interval is cut into pieces, and on each the polynomial
   is written in powers of the distance to the piece's middle. -/
module

public import Idealize.ShloMosaic.PureOps.Ideal

@[expose] public section

namespace Cert.Interval

/-- The value of a polynomial, the lowest power first. -/
noncomputable def eval : List ℤ → ℝ → ℝ
  | [], _ => 0
  | a :: p, x => a + x * eval p x

/-- `k + (c + X) * q`. -/
def times (c : ℤ) : ℤ → List ℤ → List ℤ
  | k, [] => [k]
  | k, b :: q => (k + c * b) :: times c b q

/-- The polynomial of `c + X`. -/
def shift (c : ℤ) : List ℤ → List ℤ
  | [] => []
  | a :: p => times c a (shift c p)

/-- The sum of the terms' greatest absolute values at distances up to `r`. -/
def bound (r : ℕ) : List ℤ → ℕ
  | [] => 0
  | a :: p => a.natAbs + r * bound r p

/-- What `times` states. -/
theorem eval_times (c k : ℤ) (q : List ℤ) (y : ℝ) : eval (times c k q) y = k + (c + y) * eval q y := by
  induction q generalizing k with
  | nil => simp [times, eval]
  | cons b q ih => rw [times, eval, ih, eval]; push_cast; ring

/-- What `shift` states. -/
theorem eval_shift (c : ℤ) (p : List ℤ) (y : ℝ) : eval (shift c p) y = eval p (c + y) := by
  induction p with
  | nil => rfl
  | cons a p ih => rw [shift, eval_times, ih, eval]

/-- What `bound` states. -/
theorem eval_le_bound (r : ℕ) (p : List ℤ) (y : ℝ) (h : |y| ≤ r) : |eval p y| ≤ bound r p := by
  induction p with
  | nil => simp [eval, bound]
  | cons a p ih =>
    rw [eval, bound]
    push_cast
    refine (abs_add_le _ _).trans (add_le_add (le_of_eq ?_) ?_)
    · rw [Nat.cast_natAbs, Int.cast_abs]
    · rw [abs_mul]
      exact mul_le_mul h ih (abs_nonneg _) (Nat.cast_nonneg r)

/-- The middle of a piece. -/
def middle (lo : ℤ) (r i : ℕ) : ℤ := lo + r + 2 * r * i

/-- The test of `N` pieces of half-width `r` from `lo` on: the polynomial is at most `e` on each. -/
def test (p : List ℤ) (e r : ℕ) (lo : ℤ) (N : ℕ) : Bool := (List.range N).all fun i => bound r (shift (middle lo r i) p) ≤ e

/-- THE BOUND of a polynomial on an interval whose pieces pass the test. -/
theorem le_of_test (p : List ℤ) (e r : ℕ) (lo : ℤ) (N : ℕ) (h : test p e r lo N = true) (x : ℝ) (h0 : lo ≤ x) (h1 : x < lo + 2 * r * N) :
    |eval p x| ≤ e := by
  induction N with
  | zero => simp at h1; linarith
  | succ N ih =>
    rw [test, List.all_eq_true] at h
    by_cases hx : x < lo + 2 * r * N
    · refine ih ?_ hx
      rw [test, List.all_eq_true]
      intro i hi
      exact h i (by rw [List.mem_range] at hi ⊢; omega)
    · have hb : bound r (shift (middle lo r N) p) ≤ e := of_decide_eq_true (h N (by rw [List.mem_range]; omega))
      have hy : |x - middle lo r N| ≤ r := by
        rw [abs_le, middle]
        push_cast at h1 ⊢
        constructor <;> linarith
      have he := eval_le_bound r (shift (middle lo r N) p) _ hy
      rw [eval_shift, add_sub_cancel] at he
      exact he.trans (Nat.cast_le.mpr hb)

end Cert.Interval
-- ==== Proof.Normal.lean ====
/- The normal deviates: the fit against the inverse error function as it is computed at single precision, at every random word. -/
module

public import proofs.«01_k».proof.Proof.Scalar
public import proofs.«01_k».proof.Proof.Interval

@[expose] public section

noncomputable section

namespace Cert.Normal

open Idealize.ShloMosaic Cert.Words Cert.Scalar Cert.Interval

/-! ## The inverse error function -/

/-- The polynomial of the middle part, by Horner's rule. -/
def centre (x : EReal) : EReal :=
  (((((((lit 0x32F16588#32 * x + lit 0x34B84B36#32) * x + lit 0xB66C7357#32) * x + lit 0xB6935AC1#32) * x + lit 0x396532DB#32) * x + lit 0xBAA45408#32) * x + lit 0xBB88E4EF#32) * x + lit 0x3E7C8F63#32) * x + lit 0x3FC02E2F#32

/-- The polynomial of the outer part, by Horner's rule. -/
def tail (x : EReal) : EReal :=
  (((((((lit 0xB951F09B#32 * x + lit 0x38D3B56B#32) * x + lit 0x3AB0DC72#32) * x + lit 0xBB70BDE7#32) * x + lit 0x3BBC127B#32) * x + lit 0xBBF9C5D7#32) * x + lit 0x3C1AA57E#32) * x + lit 0x3F8036DB#32) * x + lit 0x40354F7E#32

/-- The inverse error function at `u` with `w = -log(1 - u²)`, as it is computed at single precision. -/
def erfInvAt (u w : EReal) : EReal :=
  u * (if w < lit 0x40A00000#32 then centre (w - lit 0x40200000#32) else tail (Ideal.sqrt w - lit 0x40400000#32))

/-- The inverse error function. -/
def erfInv (u : EReal) : EReal := erfInvAt u (-Ideal.log1p (-u * u))

/-! ## The same polynomials at the reals -/

/-- The fit's polynomial. -/
def fitR (x : ℝ) : ℝ := (((((13212809 / 4398046511104) * x + (6147091 / 274877906944)) * x + (-6515097 / 17179869184)) * x + (-8690123 / 1073741824)) * x + (-2093043 / 8388608)) * x + (15802061 / 4194304)

/-- The middle part's. -/
def centreR (x : ℝ) : ℝ := ((((((((1977521 / 70368744177664) * x + (6038939 / 17592186044416)) * x + (-15496023 / 4398046511104)) * x + (-9657025 / 2199023255552)) * x + (15020763 / 68719476736)) * x + (-1346177 / 1073741824)) * x + (-8971503 / 2147483648)) * x + (16551779 / 67108864)) * x + (12594735 / 8388608)

/-- The outer part's. -/
def tailR (x : ℝ) : ℝ := ((((((((-13758619 / 68719476736) * x + (13874539 / 137438953472)) * x + (5795385 / 4294967296)) * x + (-15777255 / 4294967296)) * x + (12325499 / 2147483648)) * x + (-16369111 / 2147483648)) * x + (5067455 / 536870912)) * x + (8402651 / 8388608)) * x + (5941183 / 2097152)

/-- The fit's coefficients. -/
theorem lits_fit : lit 0x36499C89#32 = ((13212809 / 4398046511104 : ℝ) : EReal)
    ∧ lit 0x37BB9826#32 = ((6147091 / 274877906944 : ℝ) : EReal)
    ∧ lit 0xB9C6D332#32 = ((-6515097 / 17179869184 : ℝ) : EReal)
    ∧ lit 0xBC0499CB#32 = ((-8690123 / 1073741824 : ℝ) : EReal)
    ∧ lit 0xBE7F7F98#32 = ((-2093043 / 8388608 : ℝ) : EReal)
    ∧ lit 0x40711ECD#32 = ((15802061 / 4194304 : ℝ) : EReal) := by
  refine ⟨?_, ?_, ?_, ?_, ?_, ?_⟩ <;> (simp [Ideal.ofBits, Ideal.ieee, -EReal.coe_mul]; norm_num)

/-- The middle part's coefficients. -/
theorem lits_centre : lit 0x32F16588#32 = ((1977521 / 70368744177664 : ℝ) : EReal)
    ∧ lit 0x34B84B36#32 = ((6038939 / 17592186044416 : ℝ) : EReal)
    ∧ lit 0xB66C7357#32 = ((-15496023 / 4398046511104 : ℝ) : EReal)
    ∧ lit 0xB6935AC1#32 = ((-9657025 / 2199023255552 : ℝ) : EReal)
    ∧ lit 0x396532DB#32 = ((15020763 / 68719476736 : ℝ) : EReal)
    ∧ lit 0xBAA45408#32 = ((-1346177 / 1073741824 : ℝ) : EReal)
    ∧ lit 0xBB88E4EF#32 = ((-8971503 / 2147483648 : ℝ) : EReal)
    ∧ lit 0x3E7C8F63#32 = ((16551779 / 67108864 : ℝ) : EReal)
    ∧ lit 0x3FC02E2F#32 = ((12594735 / 8388608 : ℝ) : EReal) := by
  refine ⟨?_, ?_, ?_, ?_, ?_, ?_, ?_, ?_, ?_⟩ <;> (simp [Ideal.ofBits, Ideal.ieee, -EReal.coe_mul]; norm_num)

/-- The outer part's coefficients. -/
theorem lits_tail : lit 0xB951F09B#32 = ((-13758619 / 68719476736 : ℝ) : EReal)
    ∧ lit 0x38D3B56B#32 = ((13874539 / 137438953472 : ℝ) : EReal)
    ∧ lit 0x3AB0DC72#32 = ((5795385 / 4294967296 : ℝ) : EReal)
    ∧ lit 0xBB70BDE7#32 = ((-15777255 / 4294967296 : ℝ) : EReal)
    ∧ lit 0x3BBC127B#32 = ((12325499 / 2147483648 : ℝ) : EReal)
    ∧ lit 0xBBF9C5D7#32 = ((-16369111 / 2147483648 : ℝ) : EReal)
    ∧ lit 0x3C1AA57E#32 = ((5067455 / 536870912 : ℝ) : EReal)
    ∧ lit 0x3F8036DB#32 = ((8402651 / 8388608 : ℝ) : EReal)
    ∧ lit 0x40354F7E#32 = ((5941183 / 2097152 : ℝ) : EReal) := by
  refine ⟨?_, ?_, ?_, ?_, ?_, ?_, ?_, ?_, ?_⟩ <;> (simp [Ideal.ofBits, Ideal.ieee, -EReal.coe_mul]; norm_num)

/-- The other literals: the square root of 2, the distance, 5, 5/2, 3 and 8. -/
theorem lits_rest : lit 0x3FB504F3#32 = ((11863283 / 8388608 : ℝ) : EReal)
    ∧ lit 0x3B8CE704#32 = ((2308545 / 536870912 : ℝ) : EReal)
    ∧ lit 0x40A00000#32 = ((5 : ℝ) : EReal)
    ∧ lit 0x40200000#32 = ((5 / 2 : ℝ) : EReal)
    ∧ lit 0x40400000#32 = ((3 : ℝ) : EReal)
    ∧ lit 0x41000000#32 = ((8 : ℝ) : EReal) := by
  refine ⟨?_, ?_, ?_, ?_, ?_, ?_⟩ <;> (simp [Ideal.ofBits, Ideal.ieee, -EReal.coe_mul]; norm_num)

/-- The fit at a real. -/
theorem fit_coe (x : ℝ) : fit (x : EReal) = ((fitR x : ℝ) : EReal) := by
  obtain ⟨h0, h1, h2, h3, h4, h5⟩ := lits_fit
  rw [fit, fitR, h0, h1, h2, h3, h4, h5]
  simp only [← EReal.coe_mul, ← EReal.coe_add]

/-- The middle part at a real. -/
theorem centre_coe (x : ℝ) : centre (x : EReal) = ((centreR x : ℝ) : EReal) := by
  obtain ⟨h0, h1, h2, h3, h4, h5, h6, h7, h8⟩ := lits_centre
  rw [centre, centreR, h0, h1, h2, h3, h4, h5, h6, h7, h8]
  simp only [← EReal.coe_mul, ← EReal.coe_add]

/-- The outer part at a real. -/
theorem tail_coe (x : ℝ) : tail (x : EReal) = ((tailR x : ℝ) : EReal) := by
  obtain ⟨h0, h1, h2, h3, h4, h5, h6, h7, h8⟩ := lits_tail
  rw [tail, tailR, h0, h1, h2, h3, h4, h5, h6, h7, h8]
  simp only [← EReal.coe_mul, ← EReal.coe_add]

/-! ## The distance of the polynomials -/

/-- The fit minus the middle part times the square root of 2, in powers of `128 w`, scaled by `2 ^ 125`. -/
def middleGap : List ℤ := [-169515268394880156097096786548621312, 5439035577695369332337332268826624, -24752129606576572295272890105856, 20075147745226059018317856768, 60171727689749581279526912, -124386051748215677517824, 63091069668478304256, 23376800732404736, -23459891261443]

/-- The fit minus the outer part times the square root of 2, in powers of `128 s` with `w = s²`, scaled by `2 ^ 115`. -/
def outerGap : List ℤ := [-2475003142003966689675841030324224, -313173208070766865465950940954624, 6547985268109950721775718367232, -52520226237133859207067467776, 217175992721863902758961152, -502375583795160422547456, 662863802795966832640, -511953430092034112, 245386947120929, 0, -105702472]

/-- What `middleGap` is. -/
theorem eval_middleGap (w : ℝ) : eval middleGap (128 * w) = 2 ^ 125 * (fitR (-w + 8) - 11863283 / 8388608 * centreR (w - 5 / 2)) := by
  simp only [eval, middleGap, fitR, centreR]
  push_cast
  ring

/-- What `outerGap` is. -/
theorem eval_outerGap (s : ℝ) : eval outerGap (128 * s) = 2 ^ 115 * (fitR (-s ^ 2 + 8) - 11863283 / 8388608 * tailR (s - 3)) := by
  simp only [eval, outerGap, fitR, tailR]
  push_cast
  ring

/-- The middle part's distance. -/
theorem middle_near (w : ℝ) (h0 : 0 ≤ w) (h1 : w < 5) : |fitR (-w + 8) - 11863283 / 8388608 * centreR (w - 5 / 2)| ≤ 2308545 / 536870912 := by
  have h := le_of_test middleGap 182901778431492365229887918828421120 8 0 40 (by decide +kernel) (128 * w) (by push_cast; linarith) (by push_cast; linarith)
  rw [eval_middleGap, abs_mul, abs_of_pos (by positivity)] at h
  push_cast at h
  linarith

/-- The outer part's distance. -/
theorem outer_near (s : ℝ) (h0 : 143 / 64 ≤ s) (h1 : s ≤ 4) : |fitR (-s ^ 2 + 8) - 11863283 / 8388608 * tailR (s - 3)| ≤ 2308545 / 536870912 := by
  have h := le_of_test outerGap 178615017999504262919812420730880 4 286 29 (by decide +kernel) (128 * s) (by push_cast; linarith) (by push_cast; linarith)
  rw [eval_outerGap, abs_mul, abs_of_pos (by positivity)] at h
  push_cast at h
  linarith

/-! ## The uniform deviates -/

/-- A float of `[1, 2)` is a real of that interval, at most `2 - 2⁻²³`. -/
theorem mantissa_real (w : BitVec 32) : ∃ r : ℝ, 1 ≤ r ∧ r ≤ 16777215 / 8388608 ∧ lit (mantissa w) = (r : EReal) := by
  have h := exponent_mantissa w
  have hs : (mantissa w).extractLsb' 31 1 = 0#1 := by
    have hb : (0x3F800000#32).getLsbD 31 = false := by decide
    unfold mantissa
    ext i hi
    obtain rfl : i = 0 := by omega
    rw [BitVec.getElem_extractLsb', BitVec.getLsbD_or, BitVec.getLsbD_ushiftRight, BitVec.getLsbD_of_ge w _ (by omega), Bool.false_or]
    exact hb.trans (by simp)
  have hf : ((mantissa w).extractLsb' 0 23).toNat < 2 ^ 23 := BitVec.isLt _
  have hf' : (((mantissa w).extractLsb' 0 23).toNat : ℝ) ≤ 8388607 := by exact_mod_cast Nat.le_of_lt_succ hf
  have hp : (0 : ℝ) ≤ (((mantissa w).extractLsb' 0 23).toNat : ℝ) := Nat.cast_nonneg _
  refine ⟨(8388608 + (((mantissa w).extractLsb' 0 23).toNat : ℝ)) / 8388608, by linarith, by linarith, ?_⟩
  unfold lit Ideal.ofBits Ideal.ieee
  dsimp only
  rw [h, if_neg (by decide), if_neg (by decide), show (23 + 8 : ℕ) = 31 from rfl]
  rw [show ((mantissa w).extractLsb' (8 + 23) 1 == 1#1) = false from by rw [hs]; decide]
  congr 1
  push_cast
  norm_num
  ring

/-- A uniform deviate is a real within `1 - 2⁻²⁴` of 0. -/
theorem uniform_real (w : BitVec 32) : ∃ r : ℝ, |r| ≤ 16777215 / 16777216 ∧ uniform w = (r : EReal) := by
  obtain ⟨r, h1, h2, hr⟩ := mantissa_real w
  refine ⟨max (-16777215 / 16777216) ((r - 1) * 2 + -16777215 / 16777216), ?_, ?_⟩
  · rw [abs_le]
    exact ⟨by refine le_trans ?_ (le_max_left _ _); norm_num, max_le (by norm_num) (by linarith)⟩
  · rw [uniform, hr, lit_one, lit_two, lit_lo, ← EReal.coe_one, ← EReal.coe_sub, ← EReal.coe_mul, ← EReal.coe_add]
    exact (EReal.coe_strictMono.monotone.map_max).symm

/-- The exponential of 16 is above `2²³ + 1`. -/
theorem exp_sixteen : (8388609 : ℝ) ≤ Real.exp 16 := by
  have h : Real.exp 16 = Real.exp 1 ^ 16 := by rw [← Real.exp_nat_mul]; norm_num
  rw [h]
  have h1 : (163 / 60 : ℝ) ≤ Real.exp 1 := by
    refine le_trans ?_ (Real.sum_le_exp_of_nonneg zero_le_one 6)
    norm_num [Finset.sum_range_succ, Nat.factorial]
  calc (8388609 : ℝ) ≤ (163 / 60) ^ 16 := by norm_num
    _ ≤ Real.exp 1 ^ 16 := pow_le_pow_left₀ (by norm_num) h1 16

/-- `-log(1 - u²)` at a uniform deviate is in `[0, 16]`. -/
theorem log_range (u : ℝ) (h : |u| ≤ 16777215 / 16777216) : 0 < 1 - u ^ 2 ∧ 0 ≤ -Real.log (1 - u ^ 2) ∧ -Real.log (1 - u ^ 2) ≤ 16 := by
  have h2 : u ^ 2 ≤ (16777215 / 16777216) ^ 2 := by rw [← sq_abs]; exact pow_le_pow_left₀ (abs_nonneg u) h 2
  have h0 : 0 < 1 - u ^ 2 := by norm_num at h2; linarith
  refine ⟨h0, by have := Real.log_nonpos h0.le (by nlinarith); linarith, ?_⟩
  rw [neg_le, Real.le_log_iff_exp_le h0, Real.exp_neg]
  refine (inv_anti₀ (by norm_num) exp_sixteen).trans ?_
  norm_num at h2 ⊢
  linarith

/-! ## The two deviates -/

/-- At a uniform deviate the fit and the inverse error function times the square root of 2 are reals, and near each other. -/
theorem deviates (u : ℝ) (h : |u| ≤ 16777215 / 16777216) : ∃ q g : ℝ, |q - 11863283 / 8388608 * g| ≤ 2308545 / 536870912
    ∧ quantile (u : EReal) = (q : EReal) ∧ erfInv (u : EReal) = (g : EReal) := by
  obtain ⟨h0, hw, hw16⟩ := log_range u h
  obtain ⟨_, _, l5, lh, l3, l8⟩ := lits_rest
  have hl : Ideal.log1p (-(u : EReal) * u) = ((Real.log (1 - u ^ 2) : ℝ) : EReal) := by
    rw [Ideal.log1p, ← EReal.coe_neg, ← EReal.coe_mul, ← EReal.coe_one, ← EReal.coe_add, show (1 : ℝ) + -u * u = 1 - u ^ 2 by ring,
      Ideal.log_coe, if_neg (not_le.mpr h0)]
  have hu : |u| ≤ 1 := h.trans (by norm_num)
  generalize hL : Real.log (1 - u ^ 2) = L at *
  have hq : quantile (u : EReal) = ((u * fitR (-(-L) + 8) : ℝ) : EReal) := by
    rw [quantile, depth, hl, l8, ← EReal.coe_add, fit_coe, ← EReal.coe_mul, neg_neg]
  have hg : erfInv (u : EReal) = ((u * (if -L < 5 then centreR (-L - 5 / 2) else tailR (Real.sqrt (-L) - 3)) : ℝ) : EReal) := by
    rw [erfInv, erfInvAt, hl, ← EReal.coe_neg, l5, lh, l3, Ideal.sqrt_coe, if_neg (not_lt.mpr hw), ← EReal.coe_sub, ← EReal.coe_sub,
      centre_coe, tail_coe]
    by_cases h5 : -L < 5
    · rw [if_pos h5, if_pos (EReal.coe_lt_coe_iff.mpr h5), ← EReal.coe_mul]
    · rw [if_neg h5, if_neg (fun h' => h5 (EReal.coe_lt_coe_iff.mp h')), ← EReal.coe_mul]
  refine ⟨_, _, ?_, hq, hg⟩
  have key : |fitR (-(-L) + 8) - 11863283 / 8388608 * (if -L < 5 then centreR (-L - 5 / 2) else tailR (Real.sqrt (-L) - 3))| ≤ 2308545 / 536870912 := by
    by_cases h5 : -L < 5
    · rw [if_pos h5]
      exact middle_near (-L) hw h5
    · rw [if_neg h5]
      have hs : Real.sqrt (-L) ^ 2 = -L := Real.sq_sqrt hw
      have := outer_near (Real.sqrt (-L)) (Real.le_sqrt_of_sq_le (by norm_num; linarith)) (Real.sqrt_le_iff.mpr ⟨by norm_num, by norm_num; linarith⟩)
      rwa [hs] at this
  generalize (if -L < 5 then centreR (-L - 5 / 2) else tailR (Real.sqrt (-L) - 3)) = g at *
  rw [show u * fitR (-(-L) + 8) - 11863283 / 8388608 * (u * g) = u * (fitR (-(-L) + 8) - 11863283 / 8388608 * g) by ring, abs_mul]
  calc |u| * _ ≤ 1 * _ := mul_le_mul_of_nonneg_right hu (abs_nonneg _)
    _ ≤ _ := by rw [one_mul]; exact key

/-- THE DISTANCE: at every random word the fit's normal deviate is within 0.0043 of the inverse error function's. -/
theorem near (w : BitVec 32) :
    lit 0x3FB504F3#32 * erfInv (uniform w) - lit 0x3B8CE704#32 ≤ quantile (uniform w)
      ∧ quantile (uniform w) ≤ lit 0x3FB504F3#32 * erfInv (uniform w) + lit 0x3B8CE704#32 := by
  obtain ⟨u, hu, eu⟩ := uniform_real w
  obtain ⟨q, g, h, hq, hg⟩ := deviates u hu
  obtain ⟨l2, le, _⟩ := lits_rest
  rw [eu, hq, hg, l2, le, ← EReal.coe_mul, ← EReal.coe_sub, ← EReal.coe_add, EReal.coe_le_coe_iff, EReal.coe_le_coe_iff]
  rw [abs_le] at h
  constructor <;> linarith

/-- A sum with a product in its second term is between the sums at the factor's two bounds, in one order or the other. -/
theorem between (m s a q b : EReal) (ha : a ≤ q) (hb : q ≤ b) :
    min (m + s * a) (m + s * b) ≤ m + s * q ∧ m + s * q ≤ max (m + s * a) (m + s * b) := by
  rcases le_total 0 s with hs | hs
  · exact ⟨(min_le_left _ _).trans (add_le_add le_rfl (mul_le_mul_of_nonneg_left ha hs)),
      (add_le_add le_rfl (mul_le_mul_of_nonneg_left hb hs)).trans (le_max_right _ _)⟩
  · have hn : 0 ≤ -s := EReal.neg_nonneg.mpr hs
    have flip : ∀ x y : EReal, x ≤ y → s * y ≤ s * x := fun x y h => by
      have := mul_le_mul_of_nonneg_left h hn
      rwa [EReal.neg_mul, EReal.neg_mul, EReal.neg_le_neg_iff] at this
    exact ⟨(min_le_right _ _).trans (add_le_add le_rfl (flip _ _ hb)), (add_le_add le_rfl (flip _ _ ha)).trans (le_max_left _ _)⟩

end Cert.Normal

end
-- ==== Proof.Near.lean ====
/- The predicate `near` at an index, and its truth at the samples of the element's formula. -/
module

public import proofs.«01_k».proof.Proof.ReferenceElement
public import proofs.«01_k».proof.Proof.Normal
public import proofs.«01_k».proof.Proof.Gen.Post_near

@[expose] public section

noncomputable section

namespace Cert.Post_near.Near

open Idealize.ShloMosaic Cert.Words Cert.Scalar

attribute [local instance] Cert.Post_near.Gen.facts

open Facts

/-- The samples' shape before the last reshape. -/
abbrev Big := FVec Ideal S4x8192x768 .f32

/-! ## The moments -/

/-- The rates. -/
abbrev rates (Q : FVec Ideal S768 .f32) : FVec Ideal S768 .f32 :=
  addf (broadcastInDim S768 ![] bcast_S_S768 (constant S_ .f32 0x3FCE0210#32))
    (mulf (Host.divf (broadcastInDim S768 ![] bcast_S_S768 (constant S_ .f32 0x3F800000#32))
      (addf (broadcastInDim S768 ![] bcast_S_S768 (constant S_ .f32 0x3F800000#32)) (Host.exp (Host.negf Q))))
      (broadcastInDim S768 ![] bcast_S_S768 (constant S_ .f32 0x403FBA14#32)))

/-- The stationary variances. -/
abbrev scales (LS Q : FVec Ideal S768 .f32) : FVec Ideal S768 .f32 :=
  Host.divf (mulf (broadcastInDim S768 ![] bcast_S_S768 (constant S_ .f32 0x3F000000#32))
    (Host.exp (mulf (broadcastInDim S768 ![] bcast_S_S768 (constant S_ .f32 0x40000000#32)) LS))) (rates Q)

/-- The decays' exponents, of the rates and the times. -/
abbrev exponents (T : FVec Ideal S768 .f32) (X : FVec Ideal S4x8192x1 .f32) : Big :=
  mulf (broadcastInDim S4x8192x768 ![0, 1, 2] bcast_S1x1x768_S4x8192x768_0_1_2 (broadcastInDim S1x1x768 ![2] bcast_S768_S1x1x768_2 (Host.negf T)))
    (broadcastInDim S4x8192x768 ![0, 1, 2] bcast_S4x8192x1_S4x8192x768_0_1_2 X)

/-- The means, of the exponents and the mean at time 0. -/
abbrev means (D : Big) (M : FVec Ideal S768 .f32) : Big :=
  mulf (Host.exp D) (broadcastInDim S4x8192x768 ![0, 1, 2] bcast_S1x1x768_S4x8192x768_0_1_2 (broadcastInDim S1x1x768 ![2] bcast_S768_S1x1x768_2 M))

/-- The variances, of the exponents, the stationary variances and the logarithms of the variances at time 0. -/
abbrev variances (D : Big) (W L : FVec Ideal S768 .f32) : Big :=
  addf (broadcastInDim S4x8192x768 ![0, 1, 2] bcast_S1x1x768_S4x8192x768_0_1_2 (broadcastInDim S1x1x768 ![2] bcast_S768_S1x1x768_2 W))
    (mulf (Host.exp (mulf (broadcastInDim S4x8192x768 ![] bcast_S_S4x8192x768 (constant S_ .f32 0x40000000#32)) D))
      (broadcastInDim S4x8192x768 ![0, 1, 2] bcast_S1x1x768_S4x8192x768_0_1_2 (broadcastInDim S1x1x768 ![2] bcast_S768_S1x1x768_2 (subf (Host.exp L) W))))

/-- The normal deviates of uniform ones. -/
abbrev noise (U : Big) : Big := mulf (broadcastInDim S4x8192x768 ![] bcast_S_S4x8192x768 (constant S_ .f32 0x3FB504F3#32)) (fn_erf_inv U)

/-- The predicate, of its pieces. -/
theorem fn_eq (X : FVec Ideal S4x8192x1 .f32) (LS Q M L : FVec Ideal S768 .f32) (o : FVec Ideal S32768x768 .f32) :
    fn X LS Q M L o
      = fn_part2 o (means (exponents (rates Q) X) M) (variances (exponents (rates Q) X) (scales LS Q) L) (noise fn_uniforms) := rfl

/-- The rate at a lane. -/
theorem rates_apply (Q : FVec Ideal S768 .f32) (l : Fin 768) : rates Q (ix1 l) = theta (Q (ix1 l)) := by
  rw [theta, lit_one]
  unfold rates
  pointwise

/-- The stationary variance at a lane. -/
theorem scales_apply (LS Q : FVec Ideal S768 .f32) (l : Fin 768) : scales LS Q (ix1 l) = varScale (LS (ix1 l)) (Q (ix1 l)) := by
  rw [varScale, ← rates_apply]
  unfold scales
  generalize rates Q = T
  pointwise

/-- The decay's exponent at an index. -/
theorem exponents_apply (T : FVec Ideal S768 .f32) (X : FVec Ideal S4x8192x1 .f32) (b : Fin 4) (s : Fin 8192) (l : Fin 768) :
    exponents T X (ix3 b s l) = -T (ix1 l) * X (ix3 b s 0) := by
  unfold exponents
  pointwise

/-- The mean at an index. -/
theorem means_apply (D : Big) (M : FVec Ideal S768 .f32) (b : Fin 4) (s : Fin 8192) (l : Fin 768) :
    means D M (ix3 b s l) = Ideal.exp (D (ix3 b s l)) * M (ix1 l) := by
  unfold means
  pointwise

/-- The variance at an index. -/
theorem variances_apply (D : Big) (W L : FVec Ideal S768 .f32) (b : Fin 4) (s : Fin 8192) (l : Fin 768) :
    variances D W L (ix3 b s l)
      = W (ix1 l) + Ideal.exp (lit 0x40000000#32 * D (ix3 b s l)) * (Ideal.exp (L (ix1 l)) - W (ix1 l)) := by
  unfold variances
  pointwise

/-! ## The deviates -/

/-- The predicate's uniform deviates are the reference's. -/
theorem uniforms_eq {F : FTy → Type} [FloatOps F] (V : Valuation Cert.ReferenceIdeal.τ Cert.ReferenceIdeal.sig (Elt F)) :
    (fn_uniforms : FVec F S4x8192x768 .f32) = Cert.ReferenceIdeal.Value.res_main_v240 V := rfl

/-- A uniform deviate at an index. -/
theorem uniforms_apply (j : S4x8192x768.Idx) : (fn_uniforms : Big) j = uniform (word (BitVec.ofNat 32 (S4x8192x768.rowMajor j).val)) := by
  have V : Valuation Cert.ReferenceIdeal.τ Cert.ReferenceIdeal.sig (Elt Ideal) := fun _ _ => default
  rw [uniforms_eq V]
  exact Cert.ReferenceIdeal.Element.uniform_apply V j

/-- A normal deviate at an index. -/
theorem noise_apply (U : Big) (j : S4x8192x768.Idx) : noise U j = lit 0x3FB504F3#32 * Cert.Normal.erfInv (U j) := by
  unfold Cert.Normal.erfInv Cert.Normal.erfInvAt Cert.Normal.centre Cert.Normal.tail noise fn_erf_inv fn_erf_inv_part1 fn_erf_inv_part2 fn_erf_inv_part3 fn_where
  dsimp only
  pointwise

/-! ## The comparison -/

/-- The predicate at an index, of any moments and deviates. -/
theorem part2_apply (o : FVec Ideal S32768x768 .f32) (M V N : Big) (b : Fin 4) (s : Fin 8192) (R : Fin 32768) (hR : R.val = b.val * 8192 + s.val) (l : Fin 768)
    (lo : min (M (ix3 b s l) + Ideal.sqrt (V (ix3 b s l)) * (N (ix3 b s l) - lit 0x3B8CE704#32)) (M (ix3 b s l) + Ideal.sqrt (V (ix3 b s l)) * (N (ix3 b s l) + lit 0x3B8CE704#32)) ≤ o (ix2 R l))
    (hi : o (ix2 R l) ≤ max (M (ix3 b s l) + Ideal.sqrt (V (ix3 b s l)) * (N (ix3 b s l) - lit 0x3B8CE704#32)) (M (ix3 b s l) + Ideal.sqrt (V (ix3 b s l)) * (N (ix3 b s l) + lit 0x3B8CE704#32))) :
    fn_part2 o M V N (ix2 R l) = 1#1 := by
  have hb : b = ⟨R.val / 8192, by clear hR lo hi; omega⟩ := Fin.ext (by show b.val = R.val / 8192; omega)
  have hs : s = ⟨R.val % 8192, by clear hR lo hi; omega⟩ := Fin.ext (by show s.val = R.val % 8192; omega)
  rw [hb, hs] at lo hi
  unfold fn_part2
  dsimp only
  pointwise
  rw [decide_eq_true lo, decide_eq_true hi]
  rfl

/-- The predicate is true of samples of the element's formula. -/
theorem fn_true (X : FVec Ideal S4x8192x1 .f32) (LS Q M L : FVec Ideal S768 .f32) (o : FVec Ideal S32768x768 .f32)
    (h : ∀ (b : Fin 4) (s : Fin 8192) (l : Fin 768) (R : Fin 32768), R.val = b.val * 8192 + s.val →
      o (ix2 R l) = sample (X (ix3 b s 0)) (LS (ix1 l)) (Q (ix1 l)) (M (ix1 l)) (L (ix1 l)) (word (BitVec.ofNat 32 ((b.val * 8192 + s.val) * 768 + l.val)))) :
    fn X LS Q M L o = fun _ => 1#1 := by
  funext j
  obtain ⟨R, l, rfl⟩ : ∃ (R : Fin 32768) (l : Fin 768), j = ix2 R l := ⟨j 0, j 1, by idx_ext⟩
  let b : Fin 4 := ⟨R.val / 8192, by omega⟩
  let s : Fin 8192 := ⟨R.val % 8192, by omega⟩
  have hR : R.val = b.val * 8192 + s.val := by show R.val = R.val / 8192 * 8192 + R.val % 8192; omega
  have hk : (S4x8192x768.rowMajor (ix3 b s l)).val = (b.val * 8192 + s.val) * 768 + l.val := by
    rw [Shape.rowMajor_val_three]
    rfl
  have hn := Cert.Normal.near (word (BitVec.ofNat 32 ((b.val * 8192 + s.val) * 768 + l.val)))
  rw [fn_eq]
  apply part2_apply o _ _ _ b s R hR l <;>
    rw [means_apply, variances_apply, exponents_apply, rates_apply, scales_apply, noise_apply, uniforms_apply, hk, h b s l R hR, sample]
  · exact (Cert.Normal.between _ _ _ _ _ hn.1 hn.2).1
  · exact (Cert.Normal.between _ _ _ _ _ hn.1 hn.2).2

end Cert.Post_near.Near

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Post_near
public import Idealize.ShloMosaic.Adequacy
public import Idealize.ShloMosaic.Init
public import Idealize.ShloMosaic.Lib.Quiescent
public import proofs.«01_k».proof.Proof.KernelArray
public import proofs.«01_k».proof.Proof.ReferenceElement
public import proofs.«01_k».proof.Proof.Near

@[expose] public section

noncomputable section

namespace Cert.Proof

open Idealize.ShloMosaic Idealize.SL.Sem Cert.Kernel

/-- The kernel as run keeps its arguments and runs to the end. -/
theorem frame_k : Cert.quiescent_Kernel (hKernel := Cert.Kernel.Gen.facts) :=
  fun m ρ _ => Cert.Kernel.Gen.frame m ρ

/-- So does its idealization. -/
theorem frame_ki : Cert.quiescent_KernelIdeal (hKernelIdeal := Cert.KernelIdeal.Gen.facts) :=
  fun m ρ _ => Cert.KernelIdeal.Gen.frame m ρ

/-- So does the reference. -/
theorem frame_ri : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants. -/
theorem preserves : Cert.preserves_Kernel_KernelIdeal :=
  ⟨IdealRules.named_const.statement _ _ _ _ _ rfl, IdealRules.named_const.statement _ _ _ _ _ rfl⟩

/-- The kernel's array is the reference's result with its rows in one list, when the arguments are the same. -/
theorem arrays_eq (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (h0 : W (Proc.devRef .tc Cert.ReferenceIdeal.main_arg0) = m ((c.tc : Thread Cert.KernelIdeal.nD Cert.KernelIdeal.τ).loc Cert.KernelIdeal.main_arg0))
    (h1 : W (Proc.devRef .tc Cert.ReferenceIdeal.main_arg1) = m ((c.tc : Thread Cert.KernelIdeal.nD Cert.KernelIdeal.τ).loc Cert.KernelIdeal.main_arg1))
    (h2 : W (Proc.devRef .tc Cert.ReferenceIdeal.main_arg2) = m ((c.tc : Thread Cert.KernelIdeal.nD Cert.KernelIdeal.τ).loc Cert.KernelIdeal.main_arg2))
    (h3 : W (Proc.devRef .tc Cert.ReferenceIdeal.main_arg3) = m ((c.tc : Thread Cert.KernelIdeal.nD Cert.KernelIdeal.τ).loc Cert.KernelIdeal.main_arg3))
    (h4 : W (Proc.devRef .tc Cert.ReferenceIdeal.main_arg4) = m ((c.tc : Thread Cert.KernelIdeal.nD Cert.KernelIdeal.τ).loc Cert.KernelIdeal.main_arg4)) :
    (shapeCast Cert.ReferenceIdeal.S32768x768 (Cert.ReferenceIdeal.Element.result W) Cert.ReferenceIdeal.Gen.shapeCasts_S4x8192x768_S32768x768
        : FVec Ideal Cert.ReferenceIdeal.S32768x768 .f32)
      = ((Cert.KernelIdeal.Gen.dats m 0 c).arrAt 5 Cert.KernelIdeal.cfg0.N : FVec Ideal Cert.KernelIdeal.S32768x768 .f32) := by
  funext j
  obtain ⟨R, l, rfl⟩ : ∃ (R : Fin 32768) (l : Fin 768), j = ix2 R l := ⟨j 0, j 1, by idx_ext⟩
  let b : Fin 4 := ⟨R.val / 8192, by omega⟩
  let s : Fin 8192 := ⟨R.val % 8192, by omega⟩
  have hR : R.val = b.val * 8192 + s.val := by show R.val = R.val / 8192 * 8192 + R.val % 8192; omega
  have hk : (Cert.ReferenceIdeal.S4x8192x768.rowMajor (ix3 b s l)).val = (b.val * 8192 + s.val) * 768 + l.val := by
    rw [Shape.rowMajor_val_three]
    rfl
  refine Eq.trans ?_ (Cert.KernelIdeal.Array.array_apply m c b s l R hR).symm
  refine (shapeCast_apply _ _ _ (ix3 b s l) ?_).trans ?_
  · rw [hk, Shape.rowMajor_val_two, ← hR]
    rfl
  · rw [Cert.ReferenceIdeal.Element.result_apply, hk, h0, h1, h2, h3, h4, ← Cert.Scalar.sampleK_eq]
    rfl

/-- The two programs end with equal results, over the extended reals. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := hagree c
  exact arrays_eq m c _ h0 h1 h2 h3 h4

attribute [local instance] Cert.Post_near.Gen.facts in
/-- The kernel's array satisfies the predicate `near`. -/
theorem array_near (m : (ℓ : Loc Cert.KernelIdeal.nD Cert.KernelIdeal.τ Cert.KernelIdeal.sig) → Buf (Elt Ideal) ℓ) (c : Dev Cert.KernelIdeal.nD) :
    Cert.Post_near.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      ((Cert.KernelIdeal.Gen.dats m 0 c).arrAt 5 Cert.KernelIdeal.cfg0.N : FVec Ideal Cert.KernelIdeal.S32768x768 .f32) = fun _ => 1#1 :=
  Cert.Post_near.Near.fn_true _ _ _ _ _ _ fun b s l R hR =>
    (Cert.KernelIdeal.Array.array_apply m c b s l R hR).trans (Cert.Scalar.sampleK_eq _ _ _ _ _ _)

/-- The kernel's samples are between those of the inverse error function's deviates moved down and up. -/
theorem near : Cert.holds_KernelIdeal_near (hKernelIdeal := Cert.KernelIdeal.Gen.facts) (hPost_near := Cert.Post_near.Gen.facts) := by
  intro m ρ _
  refine (θ_run Cert.KernelIdeal.defs _ _).mono (fun r h c => ?_) (Cert.KernelIdeal.Value.run_blocks m ρ)
  obtain ⟨h5, h0, h1, h2, h3, h4⟩ := h c
  exact ⟨h0, h1, h2, h3, h4, by rw [h5]; exact array_near m c⟩

/-- Every claim. -/
theorem claim : Cert.Claim :=
  ⟨Cert.Kernel.Gen.facts, Cert.KernelIdeal.Gen.facts, Cert.ReferenceIdeal.Gen.facts, Cert.Post_near.Gen.facts, frame_k, frame_ki, frame_ri, preserves, algebraic,
    near⟩

end Cert.Proof

end
